-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_rows_counted [hPre_finite_rows_counted : Cert.Pre_finite_rows_counted.Facts] (m : (ℓ : Loc Cert.KernelIdeal.nD Cert.KernelIdeal.τ Cert.KernelIdeal.sig) → Buf (Elt Ideal) ℓ) : Prop :=
  ∀ c : Dev Cert.KernelIdeal.nD,
    (Cert.Pre_finite_rows_counted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_rows_counted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_rows_counted [hPre_finite_rows_counted : Cert.Pre_finite_rows_counted.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_rows_counted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_rows_counted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_rows_counted [hKernelIdeal : Cert.KernelIdeal.Facts] [hPre_finite_rows_counted : Cert.Pre_finite_rows_counted.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_rows_counted m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_rows_counted [hReferenceIdeal : Cert.ReferenceIdeal.Facts] [hPre_finite_rows_counted : Cert.Pre_finite_rows_counted.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_rows_counted m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_rows_counted [hKernelIdeal : Cert.KernelIdeal.Facts] [hReferenceIdeal : Cert.ReferenceIdeal.Facts] [hPre_finite_rows_counted : Cert.Pre_finite_rows_counted.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_rows_counted m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_rows_counted : Cert.Pre_finite_rows_counted.Facts),
    quiescent_Kernel (hKernel := hKernel)
    ∧ quiescent_KernelIdeal (hKernelIdeal := hKernelIdeal)
    ∧ quiescent_KernelIdeal_pre_finite_rows_counted (hKernelIdeal := hKernelIdeal) (hPre_finite_rows_counted := hPre_finite_rows_counted)
    ∧ quiescent_ReferenceIdeal (hReferenceIdeal := hReferenceIdeal)
    ∧ quiescent_ReferenceIdeal_pre_finite_rows_counted (hReferenceIdeal := hReferenceIdeal) (hPre_finite_rows_counted := hPre_finite_rows_counted)
    ∧ preserves_Kernel_KernelIdeal
    ∧ algebraic_KernelIdeal_ReferenceIdeal_pre_finite_rows_counted (hKernelIdeal := hKernelIdeal) (hReferenceIdeal := hReferenceIdeal) (hPre_finite_rows_counted := hPre_finite_rows_counted)
-- ==== Pre_finite_rows_counted.lean ====
abbrev S16x128x5120 : Shape := ⟨3, ![16, 128, 5120]⟩
abbrev S16 : Shape := ⟨1, ![16]⟩
abbrev S16x768x5120 : Shape := ⟨3, ![16, 768, 5120]⟩
abbrev S16x6x40 : Shape := ⟨3, ![16, 6, 40]⟩
abbrev S_ : Shape := ⟨0, ![]⟩

class Facts : Prop where
  bcast_S_S16 : S_.BroadcastsInDim S16 (![] : Fin 0 → Fin S16.rank)
  bitsLt_bf16_f32 : FTy.bits .bf16 < FTy.bits .f32
  bcast_S_S16x128x5120 : S_.BroadcastsInDim S16x128x5120 (![] : Fin 0 → Fin S16x128x5120.rank)

variable [Facts]

def fn {F : FTy → Type} [FloatOps F] (main_arg0 : FVec F S16x128x5120 .bf16) (main_arg1 : IVec S16 32) (main_arg2 : FVec F S16x768x5120 .fp8e4m3) (main_arg3 : FVec F S16x6x40 .f32) : IVec S16 1 × IVec S16x128x5120 1 :=
  let main_c : IVec S_ 32 := constantI S_ 32 0#32
  let main_v0 : IVec S16 32 := broadcastInDim S16 ![] bcast_S_S16 main_c
  let main_v1 : IVec S16 1 := cmpi .sge main_arg1 main_v0
  let main_v2 : FVec F S16x128x5120 .f32 := (extf .f32 · bitsLt_bf16_f32) main_arg0
  let main_v3 : FVec F S16x128x5120 .f32 := Host.absf main_v2
  let main_cst : FVec F S_ .f32 := constant S_ .f32 0x7F7F0000#32
  let main_v4 : FVec F S16x128x5120 .f32 := broadcastInDim S16x128x5120 ![] bcast_S_S16x128x5120 main_cst
  let main_v5 : IVec S16x128x5120 1 := cmpf .ole main_v3 main_v4
  (main_v1, main_v5)
-- ==== Kernel.lean ====
abbrev S16x128x5120 : Shape := ⟨3, ![16, 128, 5120]⟩
abbrev S16 : Shape := ⟨1, ![16]⟩
abbrev S16x768x5120 : Shape := ⟨3, ![16, 768, 5120]⟩
abbrev S16x6x40 : Shape := ⟨3, ![16, 6, 40]⟩
abbrev S16x128x768 : Shape := ⟨3, ![16, 128, 768]⟩
abbrev S1x128x5120 : Shape := ⟨3, ![1, 128, 5120]⟩
abbrev S1x768x5120 : Shape := ⟨3, ![1, 768, 5120]⟩
abbrev S1x128x768 : Shape := ⟨3, ![1, 128, 768]⟩
abbrev S128x5120 : Shape := ⟨2, ![128, 5120]⟩
abbrev S1 : Shape := ⟨1, ![1]⟩
abbrev S1x128x128 : Shape := ⟨3, ![1, 128, 128]⟩
abbrev S128x128 : Shape := ⟨2, ![128, 128]⟩
abbrev S128 : Shape := ⟨1, ![128]⟩
abbrev S128x1 : Shape := ⟨2, ![128, 1]⟩
abbrev S1x256 : Shape := ⟨2, ![1, 256]⟩
abbrev S128x256 : Shape := ⟨2, ![128, 256]⟩
abbrev S1x1x1 : Shape := ⟨3, ![1, 1, 1]⟩
abbrev S1x128 : Shape := ⟨2, ![1, 128]⟩

abbrev nBuf : Space → Nat
  | .hbm => 4
  | .vmem => 8
  | .smem => 2
  | _ => 0

abbrev bufTy : (tb : Table) → Fin (tcTables nBuf tb) → BufTy
  | .hbm, ⟨0, _⟩ => ⟨S16x128x5120, .bf16⟩
  | .hbm, ⟨1, _⟩ => ⟨S16x768x5120, .fp8e4m3⟩
  | .hbm, ⟨2, _⟩ => ⟨S16x6x40, .f32⟩
  | .hbm, ⟨3, _⟩ => ⟨S16x128x768, .bf16⟩
  | .local _ .vmem, ⟨0, _⟩ => ⟨S1x128x5120, .bf16⟩
  | .local _ .vmem, ⟨1, _⟩ => ⟨S1x128x5120, .bf16⟩
  | .local _ .vmem, ⟨2, _⟩ => ⟨S1x768x5120, .fp8e4m3⟩
  | .local _ .vmem, ⟨3, _⟩ => ⟨S1x768x5120, .fp8e4m3⟩
  | .local _ .vmem, ⟨4, _⟩ => ⟨S1x128x768, .bf16⟩
  | .local _ .vmem, ⟨5, _⟩ => ⟨S1x128x768, .bf16⟩
  | .local _ .vmem, ⟨6, _⟩ => ⟨S128x5120, .bf16⟩
  | .local _ .vmem, ⟨7, _⟩ => ⟨S128x5120, .bf16⟩
  | .local _ .smem, ⟨0, _⟩ => ⟨S16, .i32⟩
  | .local _ .smem, ⟨1, _⟩ => ⟨S16x6x40, .f32⟩
  | _, _ => ⟨S16x128x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_arg1 : Ref sig .tc := ⟨.smem, 0, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_stg0_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 3 → Nat :=
  let arg0 : BitVec 32 := BitVec.ofNat 32 (i 0).val
  let v2211 : Index := Scalar.indexCast arg0
  let c0_798 : Index := 0#32
  let c0_799 : Index := 0#32
  ![v2211.toNat, 0, 0]
def k0_off3 (i : grid0.Coords) : Fin 3 → Nat :=
  let arg0 : BitVec 32 := BitVec.ofNat 32 (i 0).val
  let v2221 : Index := Scalar.indexCast arg0
  let c0_804 : Index := 0#32
  let c1 : Index := 1#32
  ![v2221.toNat, 0, 1]
def k0_off4 (i : grid0.Coords) : Fin 3 → Nat :=
  let arg0 : BitVec 32 := BitVec.ofNat 32 (i 0).val
  let v2231 : Index := Scalar.indexCast arg0
  let c0_809 : Index := 0#32
  let c2 : Index := 2#32
  ![v2231.toNat, 0, 2]
def k0_off5 (i : grid0.Coords) : Fin 3 → Nat :=
  let arg0 : BitVec 32 := BitVec.ofNat 32 (i 0).val
  let v2241 : Index := Scalar.indexCast arg0
  let c0_814 : Index := 0#32
  let c3 : Index := 3#32
  ![v2241.toNat, 0, 3]
def k0_off6 (i : grid0.Coords) : Fin 3 → Nat :=
  let arg0 : BitVec 32 := BitVec.ofNat 32 (i 0).val
  let v2251 : Index := Scalar.indexCast arg0
  let c0_819 : Index := 0#32
  let c4 : Index := 4#32
  ![v2251.toNat, 0, 4]
def k0_off7 (i : grid0.Coords) : Fin 3 → Nat :=
  let arg0 : BitVec 32 := BitVec.ofNat 32 (i 0).val
  let v2261 : Index := Scalar.indexCast arg0
  let c0_824 : Index := 0#32
  let c5 : Index := 5#32
  ![v2261.toNat, 0, 5]
def k0_off8 (i : grid0.Coords) : Fin 3 → Nat :=
  let arg0 : BitVec 32 := BitVec.ofNat 32 (i 0).val
  let v2271 : Index := Scalar.indexCast arg0
  let c0_829 : Index := 0#32
  let c6 : Index := 6#32
  ![v2271.toNat, 0, 6]
def k0_off9 (i : grid0.Coords) : Fin 3 → Nat :=
  let arg0 : BitVec 32 := BitVec.ofNat 32 (i 0).val
  let v2281 : Index := Scalar.indexCast arg0
  let c0_834 : Index := 0#32
  let c7 : Index := 7#32
  ![v2281.toNat, 0, 7]
def k0_off10 (i : grid0.Coords) : Fin 3 → Nat :=
  let arg0 : BitVec 32 := BitVec.ofNat 32 (i 0).val
  let v2291 : Index := Scalar.indexCast arg0
  let c0_839 : Index := 0#32
  let c8 : Index := 8#32
  ![v2291.toNat, 0, 8]
def k0_off11 (i : grid0.Coords) : Fin 3 → Nat :=
  let arg0 : BitVec 32 := BitVec.ofNat 32 (i 0).val
  let v2301 : Index := Scalar.indexCast arg0
  let c0_844 : Index := 0#32
  let c9 : Index := 9#32
  ![v2301.toNat, 0, 9]
def k0_off12 (i : grid0.Coords) : Fin 3 → Nat :=
  let arg0 : BitVec 32 := BitVec.ofNat 32 (i 0).val
  let v2311 : Index := Scalar.indexCast arg0
  let c0_849 : Index := 0#32
  let c10 : Index := 10#32
  ![v2311.toNat, 0, 10]
def k0_off13 (i : grid0.Coords) : Fin 3 → Nat :=
  let arg0 : BitVec 32 := BitVec.ofNat 32 (i 0).val
  let v2321 : Index := Scalar.indexCast arg0
  let c0_854 : Index := 0#32
  let c11 : Index := 11#32
  ![v2321.toNat, 0, 11]
def k0_off14 (i : grid0.Coords) : Fin 3 → Nat :=
  let arg0 : BitVec 32 := BitVec.ofNat 32 (i 0).val
  let v2331 : Index := Scalar.indexCast arg0
  let c0_859 : Index := 0#32
  let c12 : Index := 12#32
  ![v2331.toNat, 0, 12]
def k0_off15 (i : grid0.Coords) : Fin 3 → Nat :=
  let arg0 : BitVec 32 := BitVec.ofNat 32 (i 0).val
  let v2341 : Index := Scalar.indexCast arg0
  let c0_864 : Index := 0#32
  let c13 : Index := 13#32
  ![v2341.toNat, 0, 13]
def k0_off16 (i : grid0.Coords) : Fin 3 → Nat :=
  let arg0 : BitVec 32 := BitVec.ofNat 32 (i 0).val
  let v2351 : Index := Scalar.indexCast arg0
  let c0_869 : Index := 0#32
  let c14 : Index := 14#32
  ![v2351.toNat, 0, 14]
def k0_off17 (i : grid0.Coords) : Fin 3 → Nat :=
  let arg0 : BitVec 32 := BitVec.ofNat 32 (i 0).val
  let v2361 : Index := Scalar.indexCast arg0
  let c0_874 : Index := 0#32
  let c15 : Index := 15#32
  ![v2361.toNat, 0, 15]
def k0_off18 (i : grid0.Coords) : Fin 3 → Nat :=
  let arg0 : BitVec 32 := BitVec.ofNat 32 (i 0).val
  let v2371 : Index := Scalar.indexCast arg0
  let c0_879 : Index := 0#32
  let c16 : Index := 16#32
  ![v2371.toNat, 0, 16]
def k0_off19 (i : grid0.Coords) : Fin 3 → Nat :=
  let arg0 : BitVec 32 := BitVec.ofNat 32 (i 0).val
  let v2381 : Index := Scalar.indexCast arg0
  let c0_884 : Index := 0#32
  let c17 : Index := 17#32
  ![v2381.toNat, 0, 17]
def k0_off20 (i : grid0.Coords) : Fin 3 → Nat :=
  let arg0 : BitVec 32 := BitVec.ofNat 32 (i 0).val
  let v2391 : Index := Scalar.indexCast arg0
  let c0_889 : Index := 0#32
  let c18 : Index := 18#32
  ![v2391.toNat, 0, 18]
def k0_off21 (i : grid0.Coords) : Fin 3 → Nat :=
  let arg0 : BitVec 32 := BitVec.ofNat 32 (i 0).val
  let v2401 : Index := Scalar.indexCast arg0
  let c0_894 : Index := 0#32
  let c19 : Index := 19#32
  ![v2401.toNat, 0, 19]
def k0_off22 (i : grid0.Coords) : Fin 3 → Nat :=
  let arg0 : BitVec 32 := BitVec.ofNat 32 (i 0).val
  let v2411 : Index := Scalar.indexCast arg0
  let c0_899 : Index := 0#32
  let c20 : Index := 20#32
  ![v2411.toNat, 0, 20]
def k0_off23 (i : grid0.Coords) : Fin 3 → Nat :=
  let arg0 : BitVec 32 := BitVec.ofNat 32 (i 0).val
  let v2421 : Index := Scalar.indexCast arg0
  let c0_904 : Index := 0#32
  let c21 : Index := 21#32
  ![v2421.toNat, 0, 21]
def k0_off24 (i : grid0.Coords) : Fin 3 → Nat :=
  let arg0 : BitVec 32 := BitVec.ofNat 32 (i 0).val
  let v2431 : Index := Scalar.indexCast arg0
  let c0_909 : Index := 0#32
  let c22 : Index := 22#32
  ![v2431.toNat, 0, 22]
def k0_off25 (i : grid0.Coords) : Fin 3 → Nat :=
  let arg0 : BitVec 32 := BitVec.ofNat 32 (i 0).val
  let v2441 : Index := Scalar.indexCast arg0
  let c0_914 : Index := 0#32
  let c23 : Index := 23#32
  ![v2441.toNat, 0, 23]
def k0_off26 (i : grid0.Coords) : Fin 3 → Nat :=
  let arg0 : BitVec 32 := BitVec.ofNat 32 (i 0).val
  let v2451 : Index := Scalar.indexCast arg0
  let c0_919 : Index := 0#32
  let c24 : Index := 24#32
  ![v2451.toNat, 0, 24]
def k0_off27 (i : grid0.Coords) : Fin 3 → Nat :=
  let arg0 : BitVec 32 := BitVec.ofNat 32 (i 0).val
  let v2461 : Index := Scalar.indexCast arg0
  let c0_924 : Index := 0#32
  let c25 : Index := 25#32
  ![v2461.toNat, 0, 25]
def k0_off28 (i : grid0.Coords) : Fin 3 → Nat :=
  let arg0 : BitVec 32 := BitVec.ofNat 32 (i 0).val
  let v2471 : Index := Scalar.indexCast arg0
  let c0_929 : Index := 0#32
  let c26 : Index := 26#32
  ![v2471.toNat, 0, 26]
def k0_off29 (i : grid0.Coords) : Fin 3 → Nat :=
  let arg0 : BitVec 32 := BitVec.ofNat 32 (i 0).val
  let v2481 : Index := Scalar.indexCast arg0
  let c0_934 : Index := 0#32
  let c27 : Index := 27#32
  ![v2481.toNat, 0, 27]
def k0_off30 (i : grid0.Coords) : Fin 3 → Nat :=
  let arg0 : BitVec 32 := BitVec.ofNat 32 (i 0).val
  let v2491 : Index := Scalar.indexCast arg0
  let c0_939 : Index := 0#32
  let c28 : Index := 28#32
  ![v2491.toNat, 0, 28]
def k0_off31 (i : grid0.Coords) : Fin 3 → Nat :=
  let arg0 : BitVec 32 := BitVec.ofNat 32 (i 0).val
  let v2501 : Index := Scalar.indexCast arg0
  let c0_944 : Index := 0#32
  let c29 : Index := 29#32
  ![v2501.toNat, 0, 29]
def k0_off32 (i : grid0.Coords) : Fin 3 → Nat :=
  let arg0 : BitVec 32 := BitVec.ofNat 32 (i 0).val
  let v2511 : Index := Scalar.indexCast arg0
  let c0_949 : Index := 0#32
  let c30 : Index := 30#32
  ![v2511.toNat, 0, 30]
def k0_off33 (i : grid0.Coords) : Fin 3 → Nat :=
  let arg0 : BitVec 32 := BitVec.ofNat 32 (i 0).val
  let v2521 : Index := Scalar.indexCast arg0
  let c0_954 : Index := 0#32
  let c31 : Index := 31#32
  ![v2521.toNat, 0, 31]
def k0_off34 (i : grid0.Coords) : Fin 3 → Nat :=
  let arg0 : BitVec 32 := BitVec.ofNat 32 (i 0).val
  let v2531 : Index := Scalar.indexCast arg0
  let c0_959 : Index := 0#32
  let c32 : Index := 32#32
  ![v2531.toNat, 0, 32]
def k0_off35 (i : grid0.Coords) : Fin 3 → Nat :=
  let arg0 : BitVec 32 := BitVec.ofNat 32 (i 0).val
  let v2541 : Index := Scalar.indexCast arg0
  let c0_964 : Index := 0#32
  let c33 : Index := 33#32
  ![v2541.toNat, 0, 33]
def k0_off36 (i : grid0.Coords) : Fin 3 → Nat :=
  let arg0 : BitVec 32 := BitVec.ofNat 32 (i 0).val
  let v2551 : Index := Scalar.indexCast arg0
  let c0_969 : Index := 0#32
  let c34 : Index := 34#32
  ![v2551.toNat, 0, 34]
def k0_off37 (i : grid0.Coords) : Fin 3 → Nat :=
  let arg0 : BitVec 32 := BitVec.ofNat 32 (i 0).val
  let v2561 : Index := Scalar.indexCast arg0
  let c0_974 : Index := 0#32
  let c35 : Index := 35#32
  ![v2561.toNat, 0, 35]
def k0_off38 (i : grid0.Coords) : Fin 3 → Nat :=
  let arg0 : BitVec 32 := BitVec.ofNat 32 (i 0).val
  let v2571 : Index := Scalar.indexCast arg0
  let c0_979 : Index := 0#32
  let c36 : Index := 36#32
  ![v2571.toNat, 0, 36]
def k0_off39 (i : grid0.Coords) : Fin 3 → Nat :=
  let arg0 : BitVec 32 := BitVec.ofNat 32 (i 0).val
  let v2581 : Index := Scalar.indexCast arg0
  let c0_984 : Index := 0#32
  let c37 : Index := 37#32
  ![v2581.toNat, 0, 37]
def k0_off40 (i : grid0.Coords) : Fin 3 → Nat :=
  let arg0 : BitVec 32 := BitVec.ofNat 32 (i 0).val
  let v2591 : Index := Scalar.indexCast arg0
  let c0_989 : Index := 0#32
  let c38 : Index := 38#32
  ![v2591.toNat, 0, 38]
def k0_off41 (i : grid0.Coords) : Fin 3 → Nat :=
  let arg0 : BitVec 32 := BitVec.ofNat 32 (i 0).val
  let v2601 : Index := Scalar.indexCast arg0
  let c0_994 : Index := 0#32
  let c39 : Index := 39#32
  ![v2601.toNat, 0, 39]
def k0_off42 (i : grid0.Coords) : Fin 3 → Nat :=
  let arg0 : BitVec 32 := BitVec.ofNat 32 (i 0).val
  let v2623 : Index := Scalar.indexCast arg0
  let c1_1009 : Index := 1#32
  let c0_1010 : Index := 0#32
  ![v2623.toNat, 1, 0]
def k0_off43 (i : grid0.Coords) : Fin 3 → Nat :=
  let arg0 : BitVec 32 := BitVec.ofNat 32 (i 0).val
  let v2633 : Index := Scalar.indexCast arg0
  let c1_1015 : Index := 1#32
  let c1_1016 : Index := 1#32
  ![v2633.toNat, 1, 1]
def k0_off44 (i : grid0.Coords) : Fin 3 → Nat :=
  let arg0 : BitVec 32 := BitVec.ofNat 32 (i 0).val
  let v2643 : Index := Scalar.indexCast arg0
  let c1_1021 : Index := 1#32
  let c2_1022 : Index := 2#32
  ![v2643.toNat, 1, 2]
def k0_off45 (i : grid0.Coords) : Fin 3 → Nat :=
  let arg0 : BitVec 32 := BitVec.ofNat 32 (i 0).val
  let v2653 : Index := Scalar.indexCast arg0
  let c1_1027 : Index := 1#32
  let c3_1028 : Index := 3#32
  ![v2653.toNat, 1, 3]
def k0_off46 (i : grid0.Coords) : Fin 3 → Nat :=
  let arg0 : BitVec 32 := BitVec.ofNat 32 (i 0).val
  let v2663 : Index := Scalar.indexCast arg0
  let c1_1033 : Index := 1#32
  let c4_1034 : Index := 4#32
  ![v2663.toNat, 1, 4]
def k0_off47 (i : grid0.Coords) : Fin 3 → Nat :=
  let arg0 : BitVec 32 := BitVec.ofNat 32 (i 0).val
  let v2673 : Index := Scalar.indexCast arg0
  let c1_1039 : Index := 1#32
  let c5_1040 : Index := 5#32
  ![v2673.toNat, 1, 5]
def k0_off48 (i : grid0.Coords) : Fin 3 → Nat :=
  let arg0 : BitVec 32 := BitVec.ofNat 32 (i 0).val
  let v2683 : Index := Scalar.indexCast arg0
  let c1_1045 : Index := 1#32
  let c6_1046 : Index := 6#32
  ![v2683.toNat, 1, 6]
def k0_off49 (i : grid0.Coords) : Fin 3 → Nat :=
  let arg0 : BitVec 32 := BitVec.ofNat 32 (i 0).val
  let v2693 : Index := Scalar.indexCast arg0
  let c1_1051 : Index := 1#32
  let c7_1052 : Index := 7#32
  ![v2693.toNat, 1, 7]
def k0_off50 (i : grid0.Coords) : Fin 3 → Nat :=
  let arg0 : BitVec 32 := BitVec.ofNat 32 (i 0).val
  let v2703 : Index := Scalar.indexCast arg0
  let c1_1057 : Index := 1#32
  let c8_1058 : Index := 8#32
  ![v2703.toNat, 1, 8]
def k0_off51 (i : grid0.Coords) : Fin 3 → Nat :=
  let arg0 : BitVec 32 := BitVec.ofNat 32 (i 0).val
  let v2713 : Index := Scalar.indexCast arg0
  let c1_1063 : Index := 1#32
  let c9_1064 : Index := 9#32
  ![v2713.toNat, 1, 9]
def k0_off52 (i : grid0.Coords) : Fin 3 → Nat :=
  let arg0 : BitVec 32 := BitVec.ofNat 32 (i 0).val
  let v2723 : Index := Scalar.indexCast arg0
  let c1_1069 : Index := 1#32
  let c10_1070 : Index := 10#32
  ![v2723.toNat, 1, 10]
def k0_off53 (i : grid0.Coords) : Fin 3 → Nat :=
  let arg0 : BitVec 32 := BitVec.ofNat 32 (i 0).val
  let v2733 : Index := Scalar.indexCast arg0
  let c1_1075 : Index := 1#32
  let c11_1076 : Index := 11#32
  ![v2733.toNat, 1, 11]
def k0_off54 (i : grid0.Coords) : Fin 3 → Nat :=
  let arg0 : BitVec 32 := BitVec.ofNat 32 (i 0).val
  let v2743 : Index := Scalar.indexCast arg0
  let c1_1081 : Index := 1#32
  let c12_1082 : Index := 12#32
  ![v2743.toNat, 1, 12]
def k0_off55 (i : grid0.Coords) : Fin 3 → Nat :=
  let arg0 : BitVec 32 := BitVec.ofNat 32 (i 0).val
  let v2753 : Index := Scalar.indexCast arg0
  let c1_1087 : Index := 1#32
  let c13_1088 : Index := 13#32
  ![v2753.toNat, 1, 13]
def k0_off56 (i : grid0.Coords) : Fin 3 → Nat :=
  let arg0 : BitVec 32 := BitVec.ofNat 32 (i 0).val
  let v2763 : Index := Scalar.indexCast arg0
  let c1_1093 : Index := 1#32
  let c14_1094 : Index := 14#32
  ![v2763.toNat, 1, 14]
def k0_off57 (i : grid0.Coords) : Fin 3 → Nat :=
  let arg0 : BitVec 32 := BitVec.ofNat 32 (i 0).val
  let v2773 : Index := Scalar.indexCast arg0
  let c1_1099 : Index := 1#32
  let c15_1100 : Index := 15#32
  ![v2773.toNat, 1, 15]
def k0_off58 (i : grid0.Coords) : Fin 3 → Nat :=
  let arg0 : BitVec 32 := BitVec.ofNat 32 (i 0).val
  let v2783 : Index := Scalar.indexCast arg0
  let c1_1105 : Index := 1#32
  let c16_1106 : Index := 16#32
  ![v2783.toNat, 1, 16]
def k0_off59 (i : grid0.Coords) : Fin 3 → Nat :=
  let arg0 : BitVec 32 := BitVec.ofNat 32 (i 0).val
  let v2793 : Index := Scalar.indexCast arg0
  let c1_1111 : Index := 1#32
  let c17_1112 : Index := 17#32
  ![v2793.toNat, 1, 17]
def k0_off60 (i : grid0.Coords) : Fin 3 → Nat :=
  let arg0 : BitVec 32 := BitVec.ofNat 32 (i 0).val
  let v2803 : Index := Scalar.indexCast arg0
  let c1_1117 : Index := 1#32
  let c18_1118 : Index := 18#32
  ![v2803.toNat, 1, 18]
def k0_off61 (i : grid0.Coords) : Fin 3 → Nat :=
  let arg0 : BitVec 32 := BitVec.ofNat 32 (i 0).val
  let v2813 : Index := Scalar.indexCast arg0
  let c1_1123 : Index := 1#32
  let c19_1124 : Index := 19#32
  ![v2813.toNat, 1, 19]
def k0_off62 (i : grid0.Coords) : Fin 3 → Nat :=
  let arg0 : BitVec 32 := BitVec.ofNat 32 (i 0).val
  let v2823 : Index := Scalar.indexCast arg0
  let c1_1129 : Index := 1#32
  let c20_1130 : Index := 20#32
  ![v2823.toNat, 1, 20]
def k0_off63 (i : grid0.Coords) : Fin 3 → Nat :=
  let arg0 : BitVec 32 := BitVec.ofNat 32 (i 0).val
  let v2833 : Index := Scalar.indexCast arg0
  let c1_1135 : Index := 1#32
  let c21_1136 : Index := 21#32
  ![v2833.toNat, 1, 21]
def k0_off64 (i : grid0.Coords) : Fin 3 → Nat :=
  let arg0 : BitVec 32 := BitVec.ofNat 32 (i 0).val
  let v2843 : Index := Scalar.indexCast arg0
  let c1_1141 : Index := 1#32
  let c22_1142 : Index := 22#32
  ![v2843.toNat, 1, 22]
def k0_off65 (i : grid0.Coords) : Fin 3 → Nat :=
  let arg0 : BitVec 32 := BitVec.ofNat 32 (i 0).val
  let v2853 : Index := Scalar.indexCast arg0
  let c1_1147 : Index := 1#32
  let c23_1148 : Index := 23#32
  ![v2853.toNat, 1, 23]
def k0_off66 (i : grid0.Coords) : Fin 3 → Nat :=
  let arg0 : BitVec 32 := BitVec.ofNat 32 (i 0).val
  let v2863 : Index := Scalar.indexCast arg0
  let c1_1153 : Index := 1#32
  let c24_1154 : Index := 24#32
  ![v2863.toNat, 1, 24]
def k0_off67 (i : grid0.Coords) : Fin 3 → Nat :=
  let arg0 : BitVec 32 := BitVec.ofNat 32 (i 0).val
  let v2873 : Index := Scalar.indexCast arg0
  let c1_1159 : Index := 1#32
  let c25_1160 : Index := 25#32
  ![v2873.toNat, 1, 25]
def k0_off68 (i : grid0.Coords) : Fin 3 → Nat :=
  let arg0 : BitVec 32 := BitVec.ofNat 32 (i 0).val
  let v2883 : Index := Scalar.indexCast arg0
  let c1_1165 : Index := 1#32
  let c26_1166 : Index := 26#32
  ![v2883.toNat, 1, 26]
def k0_off69 (i : grid0.Coords) : Fin 3 → Nat :=
  let arg0 : BitVec 32 := BitVec.ofNat 32 (i 0).val
  let v2893 : Index := Scalar.indexCast arg0
  let c1_1171 : Index := 1#32
  let c27_1172 : Index := 27#32
  ![v2893.toNat, 1, 27]
def k0_off70 (i : grid0.Coords) : Fin 3 → Nat :=
  let arg0 : BitVec 32 := BitVec.ofNat 32 (i 0).val
  let v2903 : Index := Scalar.indexCast arg0
  let c1_1177 : Index := 1#32
  let c28_1178 : Index := 28#32
  ![v2903.toNat, 1, 28]
def k0_off71 (i : grid0.Coords) : Fin 3 → Nat :=
  let arg0 : BitVec 32 := BitVec.ofNat 32 (i 0).val
  let v2913 : Index := Scalar.indexCast arg0
  let c1_1183 : Index := 1#32
  let c29_1184 : Index := 29#32
  ![v2913.toNat, 1, 29]
def k0_off72 (i : grid0.Coords) : Fin 3 → Nat :=
  let arg0 : BitVec 32 := BitVec.ofNat 32 (i 0).val
  let v2923 : Index := Scalar.indexCast arg0
  let c1_1189 : Index := 1#32
  let c30_1190 : Index := 30#32
  ![v2923.toNat, 1, 30]
def k0_off73 (i : grid0.Coords) : Fin 3 → Nat :=
  let arg0 : BitVec 32 := BitVec.ofNat 32 (i 0).val
  let v2933 : Index := Scalar.indexCast arg0
  let c1_1195 : Index := 1#32
  let c31_1196 : Index := 31#32
  ![v2933.toNat, 1, 31]
def k0_off74 (i : grid0.Coords) : Fin 3 → Nat :=
  let arg0 : BitVec 32 := BitVec.ofNat 32 (i 0).val
  let v2943 : Index := Scalar.indexCast arg0
  let c1_1201 : Index := 1#32
  let c32_1202 : Index := 32#32
  ![v2943.toNat, 1, 32]
def k0_off75 (i : grid0.Coords) : Fin 3 → Nat :=
  let arg0 : BitVec 32 := BitVec.ofNat 32 (i 0).val
  let v2953 : Index := Scalar.indexCast arg0
  let c1_1207 : Index := 1#32
  let c33_1208 : Index := 33#32
  ![v2953.toNat, 1, 33]
def k0_off76 (i : grid0.Coords) : Fin 3 → Nat :=
  let arg0 : BitVec 32 := BitVec.ofNat 32 (i 0).val
  let v2963 : Index := Scalar.indexCast arg0
  let c1_1213 : Index := 1#32
  let c34_1214 : Index := 34#32
  ![v2963.toNat, 1, 34]
def k0_off77 (i : grid0.Coords) : Fin 3 → Nat :=
  let arg0 : BitVec 32 := BitVec.ofNat 32 (i 0).val
  let v2973 : Index := Scalar.indexCast arg0
  let c1_1219 : Index := 1#32
  let c35_1220 : Index := 35#32
  ![v2973.toNat, 1, 35]
def k0_off78 (i : grid0.Coords) : Fin 3 → Nat :=
  let arg0 : BitVec 32 := BitVec.ofNat 32 (i 0).val
  let v2983 : Index := Scalar.indexCast arg0
  let c1_1225 : Index := 1#32
  let c36_1226 : Index := 36#32
  ![v2983.toNat, 1, 36]
def k0_off79 (i : grid0.Coords) : Fin 3 → Nat :=
  let arg0 : BitVec 32 := BitVec.ofNat 32 (i 0).val
  let v2993 : Index := Scalar.indexCast arg0
  let c1_1231 : Index := 1#32
  let c37_1232 : Index := 37#32
  ![v2993.toNat, 1, 37]
def k0_off80 (i : grid0.Coords) : Fin 3 → Nat :=
  let arg0 : BitVec 32 := BitVec.ofNat 32 (i 0).val
  let v3003 : Index := Scalar.indexCast arg0
  let c1_1237 : Index := 1#32
  let c38_1238 : Index := 38#32
  ![v3003.toNat, 1, 38]
def k0_off81 (i : grid0.Coords) : Fin 3 → Nat :=
  let arg0 : BitVec 32 := BitVec.ofNat 32 (i 0).val
  let v3013 : Index := Scalar.indexCast arg0
  let c1_1243 : Index := 1#32
  let c39_1244 : Index := 39#32
  ![v3013.toNat, 1, 39]
def k0_off82 (i : grid0.Coords) : Fin 3 → Nat :=
  let arg0 : BitVec 32 := BitVec.ofNat 32 (i 0).val
  let v3035 : Index := Scalar.indexCast arg0
  let c2_1259 : Index := 2#32
  let c0_1260 : Index := 0#32
  ![v3035.toNat, 2, 0]
def k0_off83 (i : grid0.Coords) : Fin 3 → Nat :=
  let arg0 : BitVec 32 := BitVec.ofNat 32 (i 0).val
  let v3045 : Index := Scalar.indexCast arg0
  let c2_1265 : Index := 2#32
  let c1_1266 : Index := 1#32
  ![v3045.toNat, 2, 1]
def k0_off84 (i : grid0.Coords) : Fin 3 → Nat :=
  let arg0 : BitVec 32 := BitVec.ofNat 32 (i 0).val
  let v3055 : Index := Scalar.indexCast arg0
  let c2_1271 : Index := 2#32
  let c2_1272 : Index := 2#32
  ![v3055.toNat, 2, 2]
def k0_off85 (i : grid0.Coords) : Fin 3 → Nat :=
  let arg0 : BitVec 32 := BitVec.ofNat 32 (i 0).val
  let v3065 : Index := Scalar.indexCast arg0
  let c2_1277 : Index := 2#32
  let c3_1278 : Index := 3#32
  ![v3065.toNat, 2, 3]
def k0_off86 (i : grid0.Coords) : Fin 3 → Nat :=
  let arg0 : BitVec 32 := BitVec.ofNat 32 (i 0).val
  let v3075 : Index := Scalar.indexCast arg0
  let c2_1283 : Index := 2#32
  let c4_1284 : Index := 4#32
  ![v3075.toNat, 2, 4]
def k0_off87 (i : grid0.Coords) : Fin 3 → Nat :=
  let arg0 : BitVec 32 := BitVec.ofNat 32 (i 0).val
  let v3085 : Index := Scalar.indexCast arg0
  let c2_1289 : Index := 2#32
  let c5_1290 : Index := 5#32
  ![v3085.toNat, 2, 5]
def k0_off88 (i : grid0.Coords) : Fin 3 → Nat :=
  let arg0 : BitVec 32 := BitVec.ofNat 32 (i 0).val
  let v3095 : Index := Scalar.indexCast arg0
  let c2_1295 : Index := 2#32
  let c6_1296 : Index := 6#32
  ![v3095.toNat, 2, 6]
def k0_off89 (i : grid0.Coords) : Fin 3 → Nat :=
  let arg0 : BitVec 32 := BitVec.ofNat 32 (i 0).val
  let v3105 : Index := Scalar.indexCast arg0
  let c2_1301 : Index := 2#32
  let c7_1302 : Index := 7#32
  ![v3105.toNat, 2, 7]
def k0_off90 (i : grid0.Coords) : Fin 3 → Nat :=
  let arg0 : BitVec 32 := BitVec.ofNat 32 (i 0).val
  let v3115 : Index := Scalar.indexCast arg0
  let c2_1307 : Index := 2#32
  let c8_1308 : Index := 8#32
  ![v3115.toNat, 2, 8]
def k0_off91 (i : grid0.Coords) : Fin 3 → Nat :=
  let arg0 : BitVec 32 := BitVec.ofNat 32 (i 0).val
  let v3125 : Index := Scalar.indexCast arg0
  let c2_1313 : Index := 2#32
  let c9_1314 : Index := 9#32
  ![v3125.toNat, 2, 9]
def k0_off92 (i : grid0.Coords) : Fin 3 → Nat :=
  let arg0 : BitVec 32 := BitVec.ofNat 32 (i 0).val
  let v3135 : Index := Scalar.indexCast arg0
  let c2_1319 : Index := 2#32
  let c10_1320 : Index := 10#32
  ![v3135.toNat, 2, 10]
def k0_off93 (i : grid0.Coords) : Fin 3 → Nat :=
  let arg0 : BitVec 32 := BitVec.ofNat 32 (i 0).val
  let v3145 : Index := Scalar.indexCast arg0
  let c2_1325 : Index := 2#32
  let c11_1326 : Index := 11#32
  ![v3145.toNat, 2, 11]
def k0_off94 (i : grid0.Coords) : Fin 3 → Nat :=
  let arg0 : BitVec 32 := BitVec.ofNat 32 (i 0).val
  let v3155 : Index := Scalar.indexCast arg0
  let c2_1331 : Index := 2#32
  let c12_1332 : Index := 12#32
  ![v3155.toNat, 2, 12]
def k0_off95 (i : grid0.Coords) : Fin 3 → Nat :=
  let arg0 : BitVec 32 := BitVec.ofNat 32 (i 0).val
  let v3165 : Index := Scalar.indexCast arg0
  let c2_1337 : Index := 2#32
  let c13_1338 : Index := 13#32
  ![v3165.toNat, 2, 13]
def k0_off96 (i : grid0.Coords) : Fin 3 → Nat :=
  let arg0 : BitVec 32 := BitVec.ofNat 32 (i 0).val
  let v3175 : Index := Scalar.indexCast arg0
  let c2_1343 : Index := 2#32
  let c14_1344 : Index := 14#32
  ![v3175.toNat, 2, 14]
def k0_off97 (i : grid0.Coords) : Fin 3 → Nat :=
  let arg0 : BitVec 32 := BitVec.ofNat 32 (i 0).val
  let v3185 : Index := Scalar.indexCast arg0
  let c2_1349 : Index := 2#32
  let c15_1350 : Index := 15#32
  ![v3185.toNat, 2, 15]
def k0_off98 (i : grid0.Coords) : Fin 3 → Nat :=
  let arg0 : BitVec 32 := BitVec.ofNat 32 (i 0).val
  let v3195 : Index := Scalar.indexCast arg0
  let c2_1355 : Index := 2#32
  let c16_1356 : Index := 16#32
  ![v3195.toNat, 2, 16]
def k0_off99 (i : grid0.Coords) : Fin 3 → Nat :=
  let arg0 : BitVec 32 := BitVec.ofNat 32 (i 0).val
  let v3205 : Index := Scalar.indexCast arg0
  let c2_1361 : Index := 2#32
  let c17_1362 : Index := 17#32
  ![v3205.toNat, 2, 17]
def k0_off100 (i : grid0.Coords) : Fin 3 → Nat :=
  let arg0 : BitVec 32 := BitVec.ofNat 32 (i 0).val
  let v3215 : Index := Scalar.indexCast arg0
  let c2_1367 : Index := 2#32
  let c18_1368 : Index := 18#32
  ![v3215.toNat, 2, 18]
def k0_off101 (i : grid0.Coords) : Fin 3 → Nat :=
  let arg0 : BitVec 32 := BitVec.ofNat 32 (i 0).val
  let v3225 : Index := Scalar.indexCast arg0
  let c2_1373 : Index := 2#32
  let c19_1374 : Index := 19#32
  ![v3225.toNat, 2, 19]
def k0_off102 (i : grid0.Coords) : Fin 3 → Nat :=
  let arg0 : BitVec 32 := BitVec.ofNat 32 (i 0).val
  let v3235 : Index := Scalar.indexCast arg0
  let c2_1379 : Index := 2#32
  let c20_1380 : Index := 20#32
  ![v3235.toNat, 2, 20]
def k0_off103 (i : grid0.Coords) : Fin 3 → Nat :=
  let arg0 : BitVec 32 := BitVec.ofNat 32 (i 0).val
  let v3245 : Index := Scalar.indexCast arg0
  let c2_1385 : Index := 2#32
  let c21_1386 : Index := 21#32
  ![v3245.toNat, 2, 21]
def k0_off104 (i : grid0.Coords) : Fin 3 → Nat :=
  let arg0 : BitVec 32 := BitVec.ofNat 32 (i 0).val
  let v3255 : Index := Scalar.indexCast arg0
  let c2_1391 : Index := 2#32
  let c22_1392 : Index := 22#32
  ![v3255.toNat, 2, 22]
def k0_off105 (i : grid0.Coords) : Fin 3 → Nat :=
  let arg0 : BitVec 32 := BitVec.ofNat 32 (i 0).val
  let v3265 : Index := Scalar.indexCast arg0
  let c2_1397 : Index := 2#32
  let c23_1398 : Index := 23#32
  ![v3265.toNat, 2, 23]
def k0_off106 (i : grid0.Coords) : Fin 3 → Nat :=
  let arg0 : BitVec 32 := BitVec.ofNat 32 (i 0).val
  let v3275 : Index := Scalar.indexCast arg0
  let c2_1403 : Index := 2#32
  let c24_1404 : Index := 24#32
  ![v3275.toNat, 2, 24]
def k0_off107 (i : grid0.Coords) : Fin 3 → Nat :=
  let arg0 : BitVec 32 := BitVec.ofNat 32 (i 0).val
  let v3285 : Index := Scalar.indexCast arg0
  let c2_1409 : Index := 2#32
  let c25_1410 : Index := 25#32
  ![v3285.toNat, 2, 25]
def k0_off108 (i : grid0.Coords) : Fin 3 → Nat :=
  let arg0 : BitVec 32 := BitVec.ofNat 32 (i 0).val
  let v3295 : Index := Scalar.indexCast arg0
  let c2_1415 : Index := 2#32
  let c26_1416 : Index := 26#32
  ![v3295.toNat, 2, 26]
def k0_off109 (i : grid0.Coords) : Fin 3 → Nat :=
  let arg0 : BitVec 32 := BitVec.ofNat 32 (i 0).val
  let v3305 : Index := Scalar.indexCast arg0
  let c2_1421 : Index := 2#32
  let c27_1422 : Index := 27#32
  ![v3305.toNat, 2, 27]
def k0_off110 (i : grid0.Coords) : Fin 3 → Nat :=
  let arg0 : BitVec 32 := BitVec.ofNat 32 (i 0).val
  let v3315 : Index := Scalar.indexCast arg0
  let c2_1427 : Index := 2#32
  let c28_1428 : Index := 28#32
  ![v3315.toNat, 2, 28]
def k0_off111 (i : grid0.Coords) : Fin 3 → Nat :=
  let arg0 : BitVec 32 := BitVec.ofNat 32 (i 0).val
  let v3325 : Index := Scalar.indexCast arg0
  let c2_1433 : Index := 2#32
  let c29_1434 : Index := 29#32
  ![v3325.toNat, 2, 29]
def k0_off112 (i : grid0.Coords) : Fin 3 → Nat :=
  let arg0 : BitVec 32 := BitVec.ofNat 32 (i 0).val
  let v3335 : Index := Scalar.indexCast arg0
  let c2_1439 : Index := 2#32
  let c30_1440 : Index := 30#32
  ![v3335.toNat, 2, 30]
def k0_off113 (i : grid0.Coords) : Fin 3 → Nat :=
  let arg0 : BitVec 32 := BitVec.ofNat 32 (i 0).val
  let v3345 : Index := Scalar.indexCast arg0
  let c2_1445 : Index := 2#32
  let c31_1446 : Index := 31#32
  ![v3345.toNat, 2, 31]
def k0_off114 (i : grid0.Coords) : Fin 3 → Nat :=
  let arg0 : BitVec 32 := BitVec.ofNat 32 (i 0).val
  let v3355 : Index := Scalar.indexCast arg0
  let c2_1451 : Index := 2#32
  let c32_1452 : Index := 32#32
  ![v3355.toNat, 2, 32]
def k0_off115 (i : grid0.Coords) : Fin 3 → Nat :=
  let arg0 : BitVec 32 := BitVec.ofNat 32 (i 0).val
  let v3365 : Index := Scalar.indexCast arg0
  let c2_1457 : Index := 2#32
  let c33_1458 : Index := 33#32
  ![v3365.toNat, 2, 33]
def k0_off116 (i : grid0.Coords) : Fin 3 → Nat :=
  let arg0 : BitVec 32 := BitVec.ofNat 32 (i 0).val
  let v3375 : Index := Scalar.indexCast arg0
  let c2_1463 : Index := 2#32
  let c34_1464 : Index := 34#32
  ![v3375.toNat, 2, 34]
def k0_off117 (i : grid0.Coords) : Fin 3 → Nat :=
  let arg0 : BitVec 32 := BitVec.ofNat 32 (i 0).val
  let v3385 : Index := Scalar.indexCast arg0
  let c2_1469 : Index := 2#32
  let c35_1470 : Index := 35#32
  ![v3385.toNat, 2, 35]
def k0_off118 (i : grid0.Coords) : Fin 3 → Nat :=
  let arg0 : BitVec 32 := BitVec.ofNat 32 (i 0).val
  let v3395 : Index := Scalar.indexCast arg0
  let c2_1475 : Index := 2#32
  let c36_1476 : Index := 36#32
  ![v3395.toNat, 2, 36]
def k0_off119 (i : grid0.Coords) : Fin 3 → Nat :=
  let arg0 : BitVec 32 := BitVec.ofNat 32 (i 0).val
  let v3405 : Index := Scalar.indexCast arg0
  let c2_1481 : Index := 2#32
  let c37_1482 : Index := 37#32
  ![v3405.toNat, 2, 37]
def k0_off120 (i : grid0.Coords) : Fin 3 → Nat :=
  let arg0 : BitVec 32 := BitVec.ofNat 32 (i 0).val
  let v3415 : Index := Scalar.indexCast arg0
  let c2_1487 : Index := 2#32
  let c38_1488 : Index := 38#32
  ![v3415.toNat, 2, 38]
def k0_off121 (i : grid0.Coords) : Fin 3 → Nat :=
  let arg0 : BitVec 32 := BitVec.ofNat 32 (i 0).val
  let v3425 : Index := Scalar.indexCast arg0
  let c2_1493 : Index := 2#32
  let c39_1494 : Index := 39#32
  ![v3425.toNat, 2, 39]
def k0_off122 (i : grid0.Coords) : Fin 3 → Nat :=
  let arg0 : BitVec 32 := BitVec.ofNat 32 (i 0).val
  let v3447 : Index := Scalar.indexCast arg0
  let c3_1509 : Index := 3#32
  let c0_1510 : Index := 0#32
  ![v3447.toNat, 3, 0]
def k0_off123 (i : grid0.Coords) : Fin 3 → Nat :=
  let arg0 : BitVec 32 := BitVec.ofNat 32 (i 0).val
  let v3457 : Index := Scalar.indexCast arg0
  let c3_1515 : Index := 3#32
  let c1_1516 : Index := 1#32
  ![v3457.toNat, 3, 1]
def k0_off124 (i : grid0.Coords) : Fin 3 → Nat :=
  let arg0 : BitVec 32 := BitVec.ofNat 32 (i 0).val
  let v3467 : Index := Scalar.indexCast arg0
  let c3_1521 : Index := 3#32
  let c2_1522 : Index := 2#32
  ![v3467.toNat, 3, 2]
def k0_off125 (i : grid0.Coords) : Fin 3 → Nat :=
  let arg0 : BitVec 32 := BitVec.ofNat 32 (i 0).val
  let v3477 : Index := Scalar.indexCast arg0
  let c3_1527 : Index := 3#32
  let c3_1528 : Index := 3#32
  ![v3477.toNat, 3, 3]
def k0_off126 (i : grid0.Coords) : Fin 3 → Nat :=
  let arg0 : BitVec 32 := BitVec.ofNat 32 (i 0).val
  let v3487 : Index := Scalar.indexCast arg0
  let c3_1533 : Index := 3#32
  let c4_1534 : Index := 4#32
  ![v3487.toNat, 3, 4]
def k0_off127 (i : grid0.Coords) : Fin 3 → Nat :=
  let arg0 : BitVec 32 := BitVec.ofNat 32 (i 0).val
  let v3497 : Index := Scalar.indexCast arg0
  let c3_1539 : Index := 3#32
  let c5_1540 : Index := 5#32
  ![v3497.toNat, 3, 5]
def k0_off128 (i : grid0.Coords) : Fin 3 → Nat :=
  let arg0 : BitVec 32 := BitVec.ofNat 32 (i 0).val
  let v3507 : Index := Scalar.indexCast arg0
  let c3_1545 : Index := 3#32
  let c6_1546 : Index := 6#32
  ![v3507.toNat, 3, 6]
def k0_off129 (i : grid0.Coords) : Fin 3 → Nat :=
  let arg0 : BitVec 32 := BitVec.ofNat 32 (i 0).val
  let v3517 : Index := Scalar.indexCast arg0
  let c3_1551 : Index := 3#32
  let c7_1552 : Index := 7#32
  ![v3517.toNat, 3, 7]
def k0_off130 (i : grid0.Coords) : Fin 3 → Nat :=
  let arg0 : BitVec 32 := BitVec.ofNat 32 (i 0).val
  let v3527 : Index := Scalar.indexCast arg0
  let c3_1557 : Index := 3#32
  let c8_1558 : Index := 8#32
  ![v3527.toNat, 3, 8]
def k0_off131 (i : grid0.Coords) : Fin 3 → Nat :=
  let arg0 : BitVec 32 := BitVec.ofNat 32 (i 0).val
  let v3537 : Index := Scalar.indexCast arg0
  let c3_1563 : Index := 3#32
  let c9_1564 : Index := 9#32
  ![v3537.toNat, 3, 9]
def k0_off132 (i : grid0.Coords) : Fin 3 → Nat :=
  let arg0 : BitVec 32 := BitVec.ofNat 32 (i 0).val
  let v3547 : Index := Scalar.indexCast arg0
  let c3_1569 : Index := 3#32
  let c10_1570 : Index := 10#32
  ![v3547.toNat, 3, 10]
def k0_off133 (i : grid0.Coords) : Fin 3 → Nat :=
  let arg0 : BitVec 32 := BitVec.ofNat 32 (i 0).val
  let v3557 : Index := Scalar.indexCast arg0
  let c3_1575 : Index := 3#32
  let c11_1576 : Index := 11#32
  ![v3557.toNat, 3, 11]
def k0_off134 (i : grid0.Coords) : Fin 3 → Nat :=
  let arg0 : BitVec 32 := BitVec.ofNat 32 (i 0).val
  let v3567 : Index := Scalar.indexCast arg0
  let c3_1581 : Index := 3#32
  let c12_1582 : Index := 12#32
  ![v3567.toNat, 3, 12]
def k0_off135 (i : grid0.Coords) : Fin 3 → Nat :=
  let arg0 : BitVec 32 := BitVec.ofNat 32 (i 0).val
  let v3577 : Index := Scalar.indexCast arg0
  let c3_1587 : Index := 3#32
  let c13_1588 : Index := 13#32
  ![v3577.toNat, 3, 13]
def k0_off136 (i : grid0.Coords) : Fin 3 → Nat :=
  let arg0 : BitVec 32 := BitVec.ofNat 32 (i 0).val
  let v3587 : Index := Scalar.indexCast arg0
  let c3_1593 : Index := 3#32
  let c14_1594 : Index := 14#32
  ![v3587.toNat, 3, 14]
def k0_off137 (i : grid0.Coords) : Fin 3 → Nat :=
  let arg0 : BitVec 32 := BitVec.ofNat 32 (i 0).val
  let v3597 : Index := Scalar.indexCast arg0
  let c3_1599 : Index := 3#32
  let c15_1600 : Index := 15#32
  ![v3597.toNat, 3, 15]
def k0_off138 (i : grid0.Coords) : Fin 3 → Nat :=
  let arg0 : BitVec 32 := BitVec.ofNat 32 (i 0).val
  let v3607 : Index := Scalar.indexCast arg0
  let c3_1605 : Index := 3#32
  let c16_1606 : Index := 16#32
  ![v3607.toNat, 3, 16]
def k0_off139 (i : grid0.Coords) : Fin 3 → Nat :=
  let arg0 : BitVec 32 := BitVec.ofNat 32 (i 0).val
  let v3617 : Index := Scalar.indexCast arg0
  let c3_1611 : Index := 3#32
  let c17_1612 : Index := 17#32
  ![v3617.toNat, 3, 17]
def k0_off140 (i : grid0.Coords) : Fin 3 → Nat :=
  let arg0 : BitVec 32 := BitVec.ofNat 32 (i 0).val
  let v3627 : Index := Scalar.indexCast arg0
  let c3_1617 : Index := 3#32
  let c18_1618 : Index := 18#32
  ![v3627.toNat, 3, 18]
def k0_off141 (i : grid0.Coords) : Fin 3 → Nat :=
  let arg0 : BitVec 32 := BitVec.ofNat 32 (i 0).val
  let v3637 : Index := Scalar.indexCast arg0
  let c3_1623 : Index := 3#32
  let c19_1624 : Index := 19#32
  ![v3637.toNat, 3, 19]
def k0_off142 (i : grid0.Coords) : Fin 3 → Nat :=
  let arg0 : BitVec 32 := BitVec.ofNat 32 (i 0).val
  let v3647 : Index := Scalar.indexCast arg0
  let c3_1629 : Index := 3#32
  let c20_1630 : Index := 20#32
  ![v3647.toNat, 3, 20]
def k0_off143 (i : grid0.Coords) : Fin 3 → Nat :=
  let arg0 : BitVec 32 := BitVec.ofNat 32 (i 0).val
  let v3657 : Index := Scalar.indexCast arg0
  let c3_1635 : Index := 3#32
  let c21_1636 : Index := 21#32
  ![v3657.toNat, 3, 21]
def k0_off144 (i : grid0.Coords) : Fin 3 → Nat :=
  let arg0 : BitVec 32 := BitVec.ofNat 32 (i 0).val
  let v3667 : Index := Scalar.indexCast arg0
  let c3_1641 : Index := 3#32
  let c22_1642 : Index := 22#32
  ![v3667.toNat, 3, 22]
def k0_off145 (i : grid0.Coords) : Fin 3 → Nat :=
  let arg0 : BitVec 32 := BitVec.ofNat 32 (i 0).val
  let v3677 : Index := Scalar.indexCast arg0
  let c3_1647 : Index := 3#32
  let c23_1648 : Index := 23#32
  ![v3677.toNat, 3, 23]
def k0_off146 (i : grid0.Coords) : Fin 3 → Nat :=
  let arg0 : BitVec 32 := BitVec.ofNat 32 (i 0).val
  let v3687 : Index := Scalar.indexCast arg0
  let c3_1653 : Index := 3#32
  let c24_1654 : Index := 24#32
  ![v3687.toNat, 3, 24]
def k0_off147 (i : grid0.Coords) : Fin 3 → Nat :=
  let arg0 : BitVec 32 := BitVec.ofNat 32 (i 0).val
  let v3697 : Index := Scalar.indexCast arg0
  let c3_1659 : Index := 3#32
  let c25_1660 : Index := 25#32
  ![v3697.toNat, 3, 25]
def k0_off148 (i : grid0.Coords) : Fin 3 → Nat :=
  let arg0 : BitVec 32 := BitVec.ofNat 32 (i 0).val
  let v3707 : Index := Scalar.indexCast arg0
  let c3_1665 : Index := 3#32
  let c26_1666 : Index := 26#32
  ![v3707.toNat, 3, 26]
def k0_off149 (i : grid0.Coords) : Fin 3 → Nat :=
  let arg0 : BitVec 32 := BitVec.ofNat 32 (i 0).val
  let v3717 : Index := Scalar.indexCast arg0
  let c3_1671 : Index := 3#32
  let c27_1672 : Index := 27#32
  ![v3717.toNat, 3, 27]
def k0_off150 (i : grid0.Coords) : Fin 3 → Nat :=
  let arg0 : BitVec 32 := BitVec.ofNat 32 (i 0).val
  let v3727 : Index := Scalar.indexCast arg0
  let c3_1677 : Index := 3#32
  let c28_1678 : Index := 28#32
  ![v3727.toNat, 3, 28]
def k0_off151 (i : grid0.Coords) : Fin 3 → Nat :=
  let arg0 : BitVec 32 := BitVec.ofNat 32 (i 0).val
  let v3737 : Index := Scalar.indexCast arg0
  let c3_1683 : Index := 3#32
  let c29_1684 : Index := 29#32
  ![v3737.toNat, 3, 29]
def k0_off152 (i : grid0.Coords) : Fin 3 → Nat :=
  let arg0 : BitVec 32 := BitVec.ofNat 32 (i 0).val
  let v3747 : Index := Scalar.indexCast arg0
  let c3_1689 : Index := 3#32
  let c30_1690 : Index := 30#32
  ![v3747.toNat, 3, 30]
def k0_off153 (i : grid0.Coords) : Fin 3 → Nat :=
  let arg0 : BitVec 32 := BitVec.ofNat 32 (i 0).val
  let v3757 : Index := Scalar.indexCast arg0
  let c3_1695 : Index := 3#32
  let c31_1696 : Index := 31#32
  ![v3757.toNat, 3, 31]
def k0_off154 (i : grid0.Coords) : Fin 3 → Nat :=
  let arg0 : BitVec 32 := BitVec.ofNat 32 (i 0).val
  let v3767 : Index := Scalar.indexCast arg0
  let c3_1701 : Index := 3#32
  let c32_1702 : Index := 32#32
  ![v3767.toNat, 3, 32]
def k0_off155 (i : grid0.Coords) : Fin 3 → Nat :=
  let arg0 : BitVec 32 := BitVec.ofNat 32 (i 0).val
  let v3777 : Index := Scalar.indexCast arg0
  let c3_1707 : Index := 3#32
  let c33_1708 : Index := 33#32
  ![v3777.toNat, 3, 33]
def k0_off156 (i : grid0.Coords) : Fin 3 → Nat :=
  let arg0 : BitVec 32 := BitVec.ofNat 32 (i 0).val
  let v3787 : Index := Scalar.indexCast arg0
  let c3_1713 : Index := 3#32
  let c34_1714 : Index := 34#32
  ![v3787.toNat, 3, 34]
def k0_off157 (i : grid0.Coords) : Fin 3 → Nat :=
  let arg0 : BitVec 32 := BitVec.ofNat 32 (i 0).val
  let v3797 : Index := Scalar.indexCast arg0
  let c3_1719 : Index := 3#32
  let c35_1720 : Index := 35#32
  ![v3797.toNat, 3, 35]
def k0_off158 (i : grid0.Coords) : Fin 3 → Nat :=
  let arg0 : BitVec 32 := BitVec.ofNat 32 (i 0).val
  let v3807 : Index := Scalar.indexCast arg0
  let c3_1725 : Index := 3#32
  let c36_1726 : Index := 36#32
  ![v3807.toNat, 3, 36]
def k0_off159 (i : grid0.Coords) : Fin 3 → Nat :=
  let arg0 : BitVec 32 := BitVec.ofNat 32 (i 0).val
  let v3817 : Index := Scalar.indexCast arg0
  let c3_1731 : Index := 3#32
  let c37_1732 : Index := 37#32
  ![v3817.toNat, 3, 37]
def k0_off160 (i : grid0.Coords) : Fin 3 → Nat :=
  let arg0 : BitVec 32 := BitVec.ofNat 32 (i 0).val
  let v3827 : Index := Scalar.indexCast arg0
  let c3_1737 : Index := 3#32
  let c38_1738 : Index := 38#32
  ![v3827.toNat, 3, 38]
def k0_off161 (i : grid0.Coords) : Fin 3 → Nat :=
  let arg0 : BitVec 32 := BitVec.ofNat 32 (i 0).val
  let v3837 : Index := Scalar.indexCast arg0
  let c3_1743 : Index := 3#32
  let c39_1744 : Index := 39#32
  ![v3837.toNat, 3, 39]
def k0_off162 (i : grid0.Coords) : Fin 3 → Nat :=
  let arg0 : BitVec 32 := BitVec.ofNat 32 (i 0).val
  let v3859 : Index := Scalar.indexCast arg0
  let c4_1759 : Index := 4#32
  let c0_1760 : Index := 0#32
  ![v3859.toNat, 4, 0]
def k0_off163 (i : grid0.Coords) : Fin 3 → Nat :=
  let arg0 : BitVec 32 := BitVec.ofNat 32 (i 0).val
  let v3869 : Index := Scalar.indexCast arg0
  let c4_1765 : Index := 4#32
  let c1_1766 : Index := 1#32
  ![v3869.toNat, 4, 1]
def k0_off164 (i : grid0.Coords) : Fin 3 → Nat :=
  let arg0 : BitVec 32 := BitVec.ofNat 32 (i 0).val
  let v3879 : Index := Scalar.indexCast arg0
  let c4_1771 : Index := 4#32
  let c2_1772 : Index := 2#32
  ![v3879.toNat, 4, 2]
def k0_off165 (i : grid0.Coords) : Fin 3 → Nat :=
  let arg0 : BitVec 32 := BitVec.ofNat 32 (i 0).val
  let v3889 : Index := Scalar.indexCast arg0
  let c4_1777 : Index := 4#32
  let c3_1778 : Index := 3#32
  ![v3889.toNat, 4, 3]
def k0_off166 (i : grid0.Coords) : Fin 3 → Nat :=
  let arg0 : BitVec 32 := BitVec.ofNat 32 (i 0).val
  let v3899 : Index := Scalar.indexCast arg0
  let c4_1783 : Index := 4#32
  let c4_1784 : Index := 4#32
  ![v3899.toNat, 4, 4]
def k0_off167 (i : grid0.Coords) : Fin 3 → Nat :=
  let arg0 : BitVec 32 := BitVec.ofNat 32 (i 0).val
  let v3909 : Index := Scalar.indexCast arg0
  let c4_1789 : Index := 4#32
  let c5_1790 : Index := 5#32
  ![v3909.toNat, 4, 5]
def k0_off168 (i : grid0.Coords) : Fin 3 → Nat :=
  let arg0 : BitVec 32 := BitVec.ofNat 32 (i 0).val
  let v3919 : Index := Scalar.indexCast arg0
  let c4_1795 : Index := 4#32
  let c6_1796 : Index := 6#32
  ![v3919.toNat, 4, 6]
def k0_off169 (i : grid0.Coords) : Fin 3 → Nat :=
  let arg0 : BitVec 32 := BitVec.ofNat 32 (i 0).val
  let v3929 : Index := Scalar.indexCast arg0
  let c4_1801 : Index := 4#32
  let c7_1802 : Index := 7#32
  ![v3929.toNat, 4, 7]
def k0_off170 (i : grid0.Coords) : Fin 3 → Nat :=
  let arg0 : BitVec 32 := BitVec.ofNat 32 (i 0).val
  let v3939 : Index := Scalar.indexCast arg0
  let c4_1807 : Index := 4#32
  let c8_1808 : Index := 8#32
  ![v3939.toNat, 4, 8]
def k0_off171 (i : grid0.Coords) : Fin 3 → Nat :=
  let arg0 : BitVec 32 := BitVec.ofNat 32 (i 0).val
  let v3949 : Index := Scalar.indexCast arg0
  let c4_1813 : Index := 4#32
  let c9_1814 : Index := 9#32
  ![v3949.toNat, 4, 9]
def k0_off172 (i : grid0.Coords) : Fin 3 → Nat :=
  let arg0 : BitVec 32 := BitVec.ofNat 32 (i 0).val
  let v3959 : Index := Scalar.indexCast arg0
  let c4_1819 : Index := 4#32
  let c10_1820 : Index := 10#32
  ![v3959.toNat, 4, 10]
def k0_off173 (i : grid0.Coords) : Fin 3 → Nat :=
  let arg0 : BitVec 32 := BitVec.ofNat 32 (i 0).val
  let v3969 : Index := Scalar.indexCast arg0
  let c4_1825 : Index := 4#32
  let c11_1826 : Index := 11#32
  ![v3969.toNat, 4, 11]
def k0_off174 (i : grid0.Coords) : Fin 3 → Nat :=
  let arg0 : BitVec 32 := BitVec.ofNat 32 (i 0).val
  let v3979 : Index := Scalar.indexCast arg0
  let c4_1831 : Index := 4#32
  let c12_1832 : Index := 12#32
  ![v3979.toNat, 4, 12]
def k0_off175 (i : grid0.Coords) : Fin 3 → Nat :=
  let arg0 : BitVec 32 := BitVec.ofNat 32 (i 0).val
  let v3989 : Index := Scalar.indexCast arg0
  let c4_1837 : Index := 4#32
  let c13_1838 : Index := 13#32
  ![v3989.toNat, 4, 13]
def k0_off176 (i : grid0.Coords) : Fin 3 → Nat :=
  let arg0 : BitVec 32 := BitVec.ofNat 32 (i 0).val
  let v3999 : Index := Scalar.indexCast arg0
  let c4_1843 : Index := 4#32
  let c14_1844 : Index := 14#32
  ![v3999.toNat, 4, 14]
def k0_off177 (i : grid0.Coords) : Fin 3 → Nat :=
  let arg0 : BitVec 32 := BitVec.ofNat 32 (i 0).val
  let v4009 : Index := Scalar.indexCast arg0
  let c4_1849 : Index := 4#32
  let c15_1850 : Index := 15#32
  ![v4009.toNat, 4, 15]
def k0_off178 (i : grid0.Coords) : Fin 3 → Nat :=
  let arg0 : BitVec 32 := BitVec.ofNat 32 (i 0).val
  let v4019 : Index := Scalar.indexCast arg0
  let c4_1855 : Index := 4#32
  let c16_1856 : Index := 16#32
  ![v4019.toNat, 4, 16]
def k0_off179 (i : grid0.Coords) : Fin 3 → Nat :=
  let arg0 : BitVec 32 := BitVec.ofNat 32 (i 0).val
  let v4029 : Index := Scalar.indexCast arg0
  let c4_1861 : Index := 4#32
  let c17_1862 : Index := 17#32
  ![v4029.toNat, 4, 17]
def k0_off180 (i : grid0.Coords) : Fin 3 → Nat :=
  let arg0 : BitVec 32 := BitVec.ofNat 32 (i 0).val
  let v4039 : Index := Scalar.indexCast arg0
  let c4_1867 : Index := 4#32
  let c18_1868 : Index := 18#32
  ![v4039.toNat, 4, 18]
def k0_off181 (i : grid0.Coords) : Fin 3 → Nat :=
  let arg0 : BitVec 32 := BitVec.ofNat 32 (i 0).val
  let v4049 : Index := Scalar.indexCast arg0
  let c4_1873 : Index := 4#32
  let c19_1874 : Index := 19#32
  ![v4049.toNat, 4, 19]
def k0_off182 (i : grid0.Coords) : Fin 3 → Nat :=
  let arg0 : BitVec 32 := BitVec.ofNat 32 (i 0).val
  let v4059 : Index := Scalar.indexCast arg0
  let c4_1879 : Index := 4#32
  let c20_1880 : Index := 20#32
  ![v4059.toNat, 4, 20]
def k0_off183 (i : grid0.Coords) : Fin 3 → Nat :=
  let arg0 : BitVec 32 := BitVec.ofNat 32 (i 0).val
  let v4069 : Index := Scalar.indexCast arg0
  let c4_1885 : Index := 4#32
  let c21_1886 : Index := 21#32
  ![v4069.toNat, 4, 21]
def k0_off184 (i : grid0.Coords) : Fin 3 → Nat :=
  let arg0 : BitVec 32 := BitVec.ofNat 32 (i 0).val
  let v4079 : Index := Scalar.indexCast arg0
  let c4_1891 : Index := 4#32
  let c22_1892 : Index := 22#32
  ![v4079.toNat, 4, 22]
def k0_off185 (i : grid0.Coords) : Fin 3 → Nat :=
  let arg0 : BitVec 32 := BitVec.ofNat 32 (i 0).val
  let v4089 : Index := Scalar.indexCast arg0
  let c4_1897 : Index := 4#32
  let c23_1898 : Index := 23#32
  ![v4089.toNat, 4, 23]
def k0_off186 (i : grid0.Coords) : Fin 3 → Nat :=
  let arg0 : BitVec 32 := BitVec.ofNat 32 (i 0).val
  let v4099 : Index := Scalar.indexCast arg0
  let c4_1903 : Index := 4#32
  let c24_1904 : Index := 24#32
  ![v4099.toNat, 4, 24]
def k0_off187 (i : grid0.Coords) : Fin 3 → Nat :=
  let arg0 : BitVec 32 := BitVec.ofNat 32 (i 0).val
  let v4109 : Index := Scalar.indexCast arg0
  let c4_1909 : Index := 4#32
  let c25_1910 : Index := 25#32
  ![v4109.toNat, 4, 25]
def k0_off188 (i : grid0.Coords) : Fin 3 → Nat :=
  let arg0 : BitVec 32 := BitVec.ofNat 32 (i 0).val
  let v4119 : Index := Scalar.indexCast arg0
  let c4_1915 : Index := 4#32
  let c26_1916 : Index := 26#32
  ![v4119.toNat, 4, 26]
def k0_off189 (i : grid0.Coords) : Fin 3 → Nat :=
  let arg0 : BitVec 32 := BitVec.ofNat 32 (i 0).val
  let v4129 : Index := Scalar.indexCast arg0
  let c4_1921 : Index := 4#32
  let c27_1922 : Index := 27#32
  ![v4129.toNat, 4, 27]
def k0_off190 (i : grid0.Coords) : Fin 3 → Nat :=
  let arg0 : BitVec 32 := BitVec.ofNat 32 (i 0).val
  let v4139 : Index := Scalar.indexCast arg0
  let c4_1927 : Index := 4#32
  let c28_1928 : Index := 28#32
  ![v4139.toNat, 4, 28]
def k0_off191 (i : grid0.Coords) : Fin 3 → Nat :=
  let arg0 : BitVec 32 := BitVec.ofNat 32 (i 0).val
  let v4149 : Index := Scalar.indexCast arg0
  let c4_1933 : Index := 4#32
  let c29_1934 : Index := 29#32
  ![v4149.toNat, 4, 29]
def k0_off192 (i : grid0.Coords) : Fin 3 → Nat :=
  let arg0 : BitVec 32 := BitVec.ofNat 32 (i 0).val
  let v4159 : Index := Scalar.indexCast arg0
  let c4_1939 : Index := 4#32
  let c30_1940 : Index := 30#32
  ![v4159.toNat, 4, 30]
def k0_off193 (i : grid0.Coords) : Fin 3 → Nat :=
  let arg0 : BitVec 32 := BitVec.ofNat 32 (i 0).val
  let v4169 : Index := Scalar.indexCast arg0
  let c4_1945 : Index := 4#32
  let c31_1946 : Index := 31#32
  ![v4169.toNat, 4, 31]
def k0_off194 (i : grid0.Coords) : Fin 3 → Nat :=
  let arg0 : BitVec 32 := BitVec.ofNat 32 (i 0).val
  let v4179 : Index := Scalar.indexCast arg0
  let c4_1951 : Index := 4#32
  let c32_1952 : Index := 32#32
  ![v4179.toNat, 4, 32]
def k0_off195 (i : grid0.Coords) : Fin 3 → Nat :=
  let arg0 : BitVec 32 := BitVec.ofNat 32 (i 0).val
  let v4189 : Index := Scalar.indexCast arg0
  let c4_1957 : Index := 4#32
  let c33_1958 : Index := 33#32
  ![v4189.toNat, 4, 33]
def k0_off196 (i : grid0.Coords) : Fin 3 → Nat :=
  let arg0 : BitVec 32 := BitVec.ofNat 32 (i 0).val
  let v4199 : Index := Scalar.indexCast arg0
  let c4_1963 : Index := 4#32
  let c34_1964 : Index := 34#32
  ![v4199.toNat, 4, 34]
def k0_off197 (i : grid0.Coords) : Fin 3 → Nat :=
  let arg0 : BitVec 32 := BitVec.ofNat 32 (i 0).val
  let v4209 : Index := Scalar.indexCast arg0
  let c4_1969 : Index := 4#32
  let c35_1970 : Index := 35#32
  ![v4209.toNat, 4, 35]
def k0_off198 (i : grid0.Coords) : Fin 3 → Nat :=
  let arg0 : BitVec 32 := BitVec.ofNat 32 (i 0).val
  let v4219 : Index := Scalar.indexCast arg0
  let c4_1975 : Index := 4#32
  let c36_1976 : Index := 36#32
  ![v4219.toNat, 4, 36]
def k0_off199 (i : grid0.Coords) : Fin 3 → Nat :=
  let arg0 : BitVec 32 := BitVec.ofNat 32 (i 0).val
  let v4229 : Index := Scalar.indexCast arg0
  let c4_1981 : Index := 4#32
  let c37_1982 : Index := 37#32
  ![v4229.toNat, 4, 37]
def k0_off200 (i : grid0.Coords) : Fin 3 → Nat :=
  let arg0 : BitVec 32 := BitVec.ofNat 32 (i 0).val
  let v4239 : Index := Scalar.indexCast arg0
  let c4_1987 : Index := 4#32
  let c38_1988 : Index := 38#32
  ![v4239.toNat, 4, 38]
def k0_off201 (i : grid0.Coords) : Fin 3 → Nat :=
  let arg0 : BitVec 32 := BitVec.ofNat 32 (i 0).val
  let v4249 : Index := Scalar.indexCast arg0
  let c4_1993 : Index := 4#32
  let c39_1994 : Index := 39#32
  ![v4249.toNat, 4, 39]
def k0_off202 (i : grid0.Coords) : Fin 3 → Nat :=
  let arg0 : BitVec 32 := BitVec.ofNat 32 (i 0).val
  let v4271 : Index := Scalar.indexCast arg0
  let c5_2009 : Index := 5#32
  let c0_2010 : Index := 0#32
  ![v4271.toNat, 5, 0]
def k0_off203 (i : grid0.Coords) : Fin 3 → Nat :=
  let arg0 : BitVec 32 := BitVec.ofNat 32 (i 0).val
  let v4281 : Index := Scalar.indexCast arg0
  let c5_2015 : Index := 5#32
  let c1_2016 : Index := 1#32
  ![v4281.toNat, 5, 1]
def k0_off204 (i : grid0.Coords) : Fin 3 → Nat :=
  let arg0 : BitVec 32 := BitVec.ofNat 32 (i 0).val
  let v4291 : Index := Scalar.indexCast arg0
  let c5_2021 : Index := 5#32
  let c2_2022 : Index := 2#32
  ![v4291.toNat, 5, 2]
def k0_off205 (i : grid0.Coords) : Fin 3 → Nat :=
  let arg0 : BitVec 32 := BitVec.ofNat 32 (i 0).val
  let v4301 : Index := Scalar.indexCast arg0
  let c5_2027 : Index := 5#32
  let c3_2028 : Index := 3#32
  ![v4301.toNat, 5, 3]
def k0_off206 (i : grid0.Coords) : Fin 3 → Nat :=
  let arg0 : BitVec 32 := BitVec.ofNat 32 (i 0).val
  let v4311 : Index := Scalar.indexCast arg0
  let c5_2033 : Index := 5#32
  let c4_2034 : Index := 4#32
  ![v4311.toNat, 5, 4]
def k0_off207 (i : grid0.Coords) : Fin 3 → Nat :=
  let arg0 : BitVec 32 := BitVec.ofNat 32 (i 0).val
  let v4321 : Index := Scalar.indexCast arg0
  let c5_2039 : Index := 5#32
  let c5_2040 : Index := 5#32
  ![v4321.toNat, 5, 5]
def k0_off208 (i : grid0.Coords) : Fin 3 → Nat :=
  let arg0 : BitVec 32 := BitVec.ofNat 32 (i 0).val
  let v4331 : Index := Scalar.indexCast arg0
  let c5_2045 : Index := 5#32
  let c6_2046 : Index := 6#32
  ![v4331.toNat, 5, 6]
def k0_off209 (i : grid0.Coords) : Fin 3 → Nat :=
  let arg0 : BitVec 32 := BitVec.ofNat 32 (i 0).val
  let v4341 : Index := Scalar.indexCast arg0
  let c5_2051 : Index := 5#32
  let c7_2052 : Index := 7#32
  ![v4341.toNat, 5, 7]
def k0_off210 (i : grid0.Coords) : Fin 3 → Nat :=
  let arg0 : BitVec 32 := BitVec.ofNat 32 (i 0).val
  let v4351 : Index := Scalar.indexCast arg0
  let c5_2057 : Index := 5#32
  let c8_2058 : Index := 8#32
  ![v4351.toNat, 5, 8]
def k0_off211 (i : grid0.Coords) : Fin 3 → Nat :=
  let arg0 : BitVec 32 := BitVec.ofNat 32 (i 0).val
  let v4361 : Index := Scalar.indexCast arg0
  let c5_2063 : Index := 5#32
  let c9_2064 : Index := 9#32
  ![v4361.toNat, 5, 9]
def k0_off212 (i : grid0.Coords) : Fin 3 → Nat :=
  let arg0 : BitVec 32 := BitVec.ofNat 32 (i 0).val
  let v4371 : Index := Scalar.indexCast arg0
  let c5_2069 : Index := 5#32
  let c10_2070 : Index := 10#32
  ![v4371.toNat, 5, 10]
def k0_off213 (i : grid0.Coords) : Fin 3 → Nat :=
  let arg0 : BitVec 32 := BitVec.ofNat 32 (i 0).val
  let v4381 : Index := Scalar.indexCast arg0
  let c5_2075 : Index := 5#32
  let c11_2076 : Index := 11#32
  ![v4381.toNat, 5, 11]
def k0_off214 (i : grid0.Coords) : Fin 3 → Nat :=
  let arg0 : BitVec 32 := BitVec.ofNat 32 (i 0).val
  let v4391 : Index := Scalar.indexCast arg0
  let c5_2081 : Index := 5#32
  let c12_2082 : Index := 12#32
  ![v4391.toNat, 5, 12]
def k0_off215 (i : grid0.Coords) : Fin 3 → Nat :=
  let arg0 : BitVec 32 := BitVec.ofNat 32 (i 0).val
  let v4401 : Index := Scalar.indexCast arg0
  let c5_2087 : Index := 5#32
  let c13_2088 : Index := 13#32
  ![v4401.toNat, 5, 13]
def k0_off216 (i : grid0.Coords) : Fin 3 → Nat :=
  let arg0 : BitVec 32 := BitVec.ofNat 32 (i 0).val
  let v4411 : Index := Scalar.indexCast arg0
  let c5_2093 : Index := 5#32
  let c14_2094 : Index := 14#32
  ![v4411.toNat, 5, 14]
def k0_off217 (i : grid0.Coords) : Fin 3 → Nat :=
  let arg0 : BitVec 32 := BitVec.ofNat 32 (i 0).val
  let v4421 : Index := Scalar.indexCast arg0
  let c5_2099 : Index := 5#32
  let c15_2100 : Index := 15#32
  ![v4421.toNat, 5, 15]
def k0_off218 (i : grid0.Coords) : Fin 3 → Nat :=
  let arg0 : BitVec 32 := BitVec.ofNat 32 (i 0).val
  let v4431 : Index := Scalar.indexCast arg0
  let c5_2105 : Index := 5#32
  let c16_2106 : Index := 16#32
  ![v4431.toNat, 5, 16]
def k0_off219 (i : grid0.Coords) : Fin 3 → Nat :=
  let arg0 : BitVec 32 := BitVec.ofNat 32 (i 0).val
  let v4441 : Index := Scalar.indexCast arg0
  let c5_2111 : Index := 5#32
  let c17_2112 : Index := 17#32
  ![v4441.toNat, 5, 17]
def k0_off220 (i : grid0.Coords) : Fin 3 → Nat :=
  let arg0 : BitVec 32 := BitVec.ofNat 32 (i 0).val
  let v4451 : Index := Scalar.indexCast arg0
  let c5_2117 : Index := 5#32
  let c18_2118 : Index := 18#32
  ![v4451.toNat, 5, 18]
def k0_off221 (i : grid0.Coords) : Fin 3 → Nat :=
  let arg0 : BitVec 32 := BitVec.ofNat 32 (i 0).val
  let v4461 : Index := Scalar.indexCast arg0
  let c5_2123 : Index := 5#32
  let c19_2124 : Index := 19#32
  ![v4461.toNat, 5, 19]
def k0_off222 (i : grid0.Coords) : Fin 3 → Nat :=
  let arg0 : BitVec 32 := BitVec.ofNat 32 (i 0).val
  let v4471 : Index := Scalar.indexCast arg0
  let c5_2129 : Index := 5#32
  let c20_2130 : Index := 20#32
  ![v4471.toNat, 5, 20]
def k0_off223 (i : grid0.Coords) : Fin 3 → Nat :=
  let arg0 : BitVec 32 := BitVec.ofNat 32 (i 0).val
  let v4481 : Index := Scalar.indexCast arg0
  let c5_2135 : Index := 5#32
  let c21_2136 : Index := 21#32
  ![v4481.toNat, 5, 21]
def k0_off224 (i : grid0.Coords) : Fin 3 → Nat :=
  let arg0 : BitVec 32 := BitVec.ofNat 32 (i 0).val
  let v4491 : Index := Scalar.indexCast arg0
  let c5_2141 : Index := 5#32
  let c22_2142 : Index := 22#32
  ![v4491.toNat, 5, 22]
def k0_off225 (i : grid0.Coords) : Fin 3 → Nat :=
  let arg0 : BitVec 32 := BitVec.ofNat 32 (i 0).val
  let v4501 : Index := Scalar.indexCast arg0
  let c5_2147 : Index := 5#32
  let c23_2148 : Index := 23#32
  ![v4501.toNat, 5, 23]
def k0_off226 (i : grid0.Coords) : Fin 3 → Nat :=
  let arg0 : BitVec 32 := BitVec.ofNat 32 (i 0).val
  let v4511 : Index := Scalar.indexCast arg0
  let c5_2153 : Index := 5#32
  let c24_2154 : Index := 24#32
  ![v4511.toNat, 5, 24]
def k0_off227 (i : grid0.Coords) : Fin 3 → Nat :=
  let arg0 : BitVec 32 := BitVec.ofNat 32 (i 0).val
  let v4521 : Index := Scalar.indexCast arg0
  let c5_2159 : Index := 5#32
  let c25_2160 : Index := 25#32
  ![v4521.toNat, 5, 25]
def k0_off228 (i : grid0.Coords) : Fin 3 → Nat :=
  let arg0 : BitVec 32 := BitVec.ofNat 32 (i 0).val
  let v4531 : Index := Scalar.indexCast arg0
  let c5_2165 : Index := 5#32
  let c26_2166 : Index := 26#32
  ![v4531.toNat, 5, 26]
def k0_off229 (i : grid0.Coords) : Fin 3 → Nat :=
  let arg0 : BitVec 32 := BitVec.ofNat 32 (i 0).val
  let v4541 : Index := Scalar.indexCast arg0
  let c5_2171 : Index := 5#32
  let c27_2172 : Index := 27#32
  ![v4541.toNat, 5, 27]
def k0_off230 (i : grid0.Coords) : Fin 3 → Nat :=
  let arg0 : BitVec 32 := BitVec.ofNat 32 (i 0).val
  let v4551 : Index := Scalar.indexCast arg0
  let c5_2177 : Index := 5#32
  let c28_2178 : Index := 28#32
  ![v4551.toNat, 5, 28]
def k0_off231 (i : grid0.Coords) : Fin 3 → Nat :=
  let arg0 : BitVec 32 := BitVec.ofNat 32 (i 0).val
  let v4561 : Index := Scalar.indexCast arg0
  let c5_2183 : Index := 5#32
  let c29_2184 : Index := 29#32
  ![v4561.toNat, 5, 29]
def k0_off232 (i : grid0.Coords) : Fin 3 → Nat :=
  let arg0 : BitVec 32 := BitVec.ofNat 32 (i 0).val
  let v4571 : Index := Scalar.indexCast arg0
  let c5_2189 : Index := 5#32
  let c30_2190 : Index := 30#32
  ![v4571.toNat, 5, 30]
def k0_off233 (i : grid0.Coords) : Fin 3 → Nat :=
  let arg0 : BitVec 32 := BitVec.ofNat 32 (i 0).val
  let v4581 : Index := Scalar.indexCast arg0
  let c5_2195 : Index := 5#32
  let c31_2196 : Index := 31#32
  ![v4581.toNat, 5, 31]
def k0_off234 (i : grid0.Coords) : Fin 3 → Nat :=
  let arg0 : BitVec 32 := BitVec.ofNat 32 (i 0).val
  let v4591 : Index := Scalar.indexCast arg0
  let c5_2201 : Index := 5#32
  let c32_2202 : Index := 32#32
  ![v4591.toNat, 5, 32]
def k0_off235 (i : grid0.Coords) : Fin 3 → Nat :=
  let arg0 : BitVec 32 := BitVec.ofNat 32 (i 0).val
  let v4601 : Index := Scalar.indexCast arg0
  let c5_2207 : Index := 5#32
  let c33_2208 : Index := 33#32
  ![v4601.toNat, 5, 33]
def k0_off236 (i : grid0.Coords) : Fin 3 → Nat :=
  let arg0 : BitVec 32 := BitVec.ofNat 32 (i 0).val
  let v4611 : Index := Scalar.indexCast arg0
  let c5_2213 : Index := 5#32
  let c34_2214 : Index := 34#32
  ![v4611.toNat, 5, 34]
def k0_off237 (i : grid0.Coords) : Fin 3 → Nat :=
  let arg0 : BitVec 32 := BitVec.ofNat 32 (i 0).val
  let v4621 : Index := Scalar.indexCast arg0
  let c5_2219 : Index := 5#32
  let c35_2220 : Index := 35#32
  ![v4621.toNat, 5, 35]
def k0_off238 (i : grid0.Coords) : Fin 3 → Nat :=
  let arg0 : BitVec 32 := BitVec.ofNat 32 (i 0).val
  let v4631 : Index := Scalar.indexCast arg0
  let c5_2225 : Index := 5#32
  let c36_2226 : Index := 36#32
  ![v4631.toNat, 5, 36]
def k0_off239 (i : grid0.Coords) : Fin 3 → Nat :=
  let arg0 : BitVec 32 := BitVec.ofNat 32 (i 0).val
  let v4641 : Index := Scalar.indexCast arg0
  let c5_2231 : Index := 5#32
  let c37_2232 : Index := 37#32
  ![v4641.toNat, 5, 37]
def k0_off240 (i : grid0.Coords) : Fin 3 → Nat :=
  let arg0 : BitVec 32 := BitVec.ofNat 32 (i 0).val
  let v4651 : Index := Scalar.indexCast arg0
  let c5_2237 : Index := 5#32
  let c38_2238 : Index := 38#32
  ![v4651.toNat, 5, 38]
def k0_off241 (i : grid0.Coords) : Fin 3 → Nat :=
  let arg0 : BitVec 32 := BitVec.ofNat 32 (i 0).val
  let v4661 : Index := Scalar.indexCast arg0
  let c5_2243 : Index := 5#32
  let c39_2244 : Index := 39#32
  ![v4661.toNat, 5, 39]
def k0_cond1 (v1 : BitVec 32) : BitVec 1 :=
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def k0_cond2 (v1 : BitVec 32) : BitVec 1 :=
  let c0_i32_1 : BitVec 32 := 0#32
  let v5 : BitVec 1 := Scalar.cmpi .sgt v1 c0_i32_1
  let v6 : BitVec 32 := Scalar.extui v5
  let c0_i32_2 : BitVec 32 := 0#32
  let v7 : BitVec 1 := Scalar.cmpi .ne v6 c0_i32_2
  v7

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S16x6x40 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x128x5120 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x768x5120 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16x128x5120 : Shape := ⟨3, ![16, 128, 5120]⟩
abbrev S16 : Shape := ⟨1, ![16]⟩
abbrev S16x768x5120 : Shape := ⟨3, ![16, 768, 5120]⟩
abbrev S16x6x40 : Shape := ⟨3, ![16, 6, 40]⟩
abbrev S16x128x768 : Shape := ⟨3, ![16, 128, 768]⟩
abbrev S16x128x40x128 : Shape := ⟨4, ![16, 128, 40, 128]⟩
abbrev S16x128x40 : Shape := ⟨3, ![16, 128, 40]⟩
abbrev S1x1x1x278 : Shape := ⟨4, ![1, 1, 1, 278]⟩
abbrev S16x128x40x1 : Shape := ⟨4, ![16, 128, 40, 1]⟩
abbrev S16x128x40x278 : Shape := ⟨4, ![16, 128, 40, 278]⟩
abbrev S16x1x128x40x128 : Shape := ⟨5, ![16, 1, 128, 40, 128]⟩
abbrev S16x6x1x40x1 : Shape := ⟨5, ![16, 6, 1, 40, 1]⟩
abbrev S16x6x128x40x128 : Shape := ⟨5, ![16, 6, 128, 40, 128]⟩
abbrev S16x6x128x5120 : Shape := ⟨4, ![16, 6, 128, 5120]⟩
abbrev S16x6x128x128 : Shape := ⟨4, ![16, 6, 128, 128]⟩
abbrev S16x128x6x128 : Shape := ⟨4, ![16, 128, 6, 128]⟩
abbrev S1x128 : Shape := ⟨2, ![1, 128]⟩
abbrev S128 : Shape := ⟨1, ![128]⟩
abbrev S16x1 : Shape := ⟨2, ![16, 1]⟩
abbrev S16x128 : Shape := ⟨2, ![16, 128]⟩
abbrev S16x128x1 : Shape := ⟨3, ![16, 128, 1]⟩

abbrev nBuf : Space → Nat
  | .hbm => 5
  | .vmem => 5
  | .smem => 0
  | _ => 0

abbrev bufTy : (tb : Table) → Fin (tcTables nBuf tb) → BufTy
  | .hbm, ⟨0, _⟩ => ⟨S16x128x5120, .bf16⟩
  | .hbm, ⟨1, _⟩ => ⟨S16, .i32⟩
  | .hbm, ⟨2, _⟩ => ⟨S16x768x5120, .fp8e4m3⟩
  | .hbm, ⟨3, _⟩ => ⟨S16x6x40, .f32⟩
  | .hbm, ⟨4, _⟩ => ⟨S16x128x768, .bf16⟩
  | .local _ .vmem, ⟨0, _⟩ => ⟨S16x128x5120, .bf16⟩
  | .local _ .vmem, ⟨1, _⟩ => ⟨S16, .i32⟩
  | .local _ .vmem, ⟨2, _⟩ => ⟨S16x768x5120, .fp8e4m3⟩
  | .local _ .vmem, ⟨3, _⟩ => ⟨S16x6x40, .f32⟩
  | .local _ .vmem, ⟨4, _⟩ => ⟨S16x128x768, .bf16⟩
  | _, _ => ⟨S16x128x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S16x128x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x768x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x6x40 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x128x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KernelBody.lean ====
/- The kernel body run on any whole buffers, one theorem per branch the group's size selects. -/
module

public import proofs.«01_k».proof.Proof.Gen.Kernel.Skeleton
public import proofs.«01_k».proof.Proof.Gen.Kernel.Launch
public import Idealize.ShloMosaic.Lib.Tactic
public import Idealize.ShloMosaic.Lib.Pipeline.Frame
public import Idealize.ShloMosaic.Lib.Pipeline.FrameBody

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The contents of a memref's whole buffer on core `c`. -/
abbrev Bf (c : Dev nD) {sp : Space} {S : Shape} {e : EltTy} (M : Memref sig .tc sp S e) : Type := Buf (Elt F) (M.view.loc (c : Thread nD τ))
/-- A memref's whole buffer held at `f`. -/
abbrev pt (c : Dev nD) {sp : Space} {S : Shape} {e : EltTy} (M : Memref sig .tc sp S e) (f : Bf (F := F) c M) : sProp 𝕄 :=
  M.view.loc (c : Thread nD τ) ↦{fullShare} f
/-- The table's buffer held at half the full share. -/
abbrev tpt (c : Dev nD) {S : Shape} {e : EltTy} (M : Memref sig .tc .smem S e) (f : Bf (F := F) c M) : sProp 𝕄 :=
  M.view.loc (c : Thread nD τ) ↦{fullShare.right} f

/-- The group size the body loads from the table at point `i`. -/
abbrev word (c : Dev nD) (i : grid0.Coords) (M1 : Memref sig .tc .smem S16 .i32) (f1 : Bf (F := F) c M1) : BitVec 32 :=
  View.readAt (Elt F) M1.view (Rect.unit (s := S16) (k0_off1 i) S1.size (k0_off1_inb i)).toLoadRect f1 (Shape.Idx.first (show 0 < S1.numel by rw [numel1_S1]; exact Nat.one_pos))

/-- A positive group size: the body quantises, scales and multiplies, and leaves the output buffer at some contents
    `W` that do not depend on what it held. -/
noncomputable def runPos (c : Dev nD) (i : grid0.Coords)
    (M1 : Memref sig .tc .smem S16 .i32) (h1 : M1.IsWhole) (M2 : Memref sig .tc .smem S16x6x40 .f32) (h2 : M2.IsWhole)
    (M3 : Memref sig .tc .vmem S1x128x5120 .bf16) (h3 : M3.IsWhole) (M4 : Memref sig .tc .vmem S1x768x5120 .fp8e4m3) (h4 : M4.IsWhole)
    (M5 : Memref sig .tc .vmem S1x128x768 .bf16) (h5 : M5.IsWhole) (M6 : Memref sig .tc .vmem S128x5120 .bf16) (h6 : M6.IsWhole)
    (M7 : Memref sig .tc .vmem S128x5120 .bf16) (h7 : M7.IsWhole)
    (f1 : Bf (F := F) c M1) (f2 : Bf (F := F) c M2) (f3 : Bf (F := F) c M3) (f4 : Bf (F := F) c M4)
    (hc1 : ¬ k0_cond1 (word c i M1 f1) = 1#1) (hc2 : k0_cond2 (word c i M1 f1) = 1#1) :
    { W : Bf (F := F) c M5 // ∀ (f5 : Bf (F := F) c M5) (f6 : Bf (F := F) c M6) (f7 : Bf (F := F) c M7) (E : Set ℕ) (Q : PUnit → sProp 𝕄),
        iprop(tpt c M1 f1 ∗ pt c M2 f2 ∗ pt c M3 f3 ∗ pt c M4 f4 ∗ pt c M5 f5 ∗ pt c M6 f6 ∗ pt c M7 f7
          ∗ (iprop(tpt c M1 f1 ∗ pt c M2 f2 ∗ pt c M3 f3 ∗ pt c M4 f4 ∗ pt c M5 W ∗ (∃ f, pt c M6 f) ∗ (∃ f, pt c M7 f)) -∗ Q ⟨⟩))
        ⊢ wp frame (wpE (defs₀ (F := F)) Variants.none c none) E
            (cc0_grouped_fp8_matmul i M1 h1 M2 h2 M3 h3 M4 h4 M5 h5 M6 h6 M7 h7) Q } := by
  refine ⟨?_, fun f5 f6 f7 E Q => ?run⟩
  case run =>
    iintro ⟨H1, H2, H3, H4, H5, H6, H7, Hk⟩
    sl_exec_parts! (disch := first | exact hc1 | exact hc2)
    sl_step
    iapply Hk
    isplitl [H1]; · iexact H1
    isplitl [H2]; · iexact H2
    isplitl [H3]; · iexact H3
    isplitl [H4]; · iexact H4
    isplitl [H5]; · iexact H5
    isplitl [H6]; · iexists _; iexact H6
    iexists _; iexact H7

/-- An empty group: the body stores zeros over the output buffer. -/
noncomputable def runZero (c : Dev nD) (i : grid0.Coords)
    (M1 : Memref sig .tc .smem S16 .i32) (h1 : M1.IsWhole) (M2 : Memref sig .tc .smem S16x6x40 .f32) (h2 : M2.IsWhole)
    (M3 : Memref sig .tc .vmem S1x128x5120 .bf16) (h3 : M3.IsWhole) (M4 : Memref sig .tc .vmem S1x768x5120 .fp8e4m3) (h4 : M4.IsWhole)
    (M5 : Memref sig .tc .vmem S1x128x768 .bf16) (h5 : M5.IsWhole) (M6 : Memref sig .tc .vmem S128x5120 .bf16) (h6 : M6.IsWhole)
    (M7 : Memref sig .tc .vmem S128x5120 .bf16) (h7 : M7.IsWhole)
    (f1 : Bf (F := F) c M1)
    (hc1 : k0_cond1 (word c i M1 f1) = 1#1) (hc2 : ¬ k0_cond2 (word c i M1 f1) = 1#1) :
    { W : Bf (F := F) c M5 // ∀ (f2 : Bf (F := F) c M2) (f3 : Bf (F := F) c M3) (f4 : Bf (F := F) c M4) (f5 : Bf (F := F) c M5) (f6 : Bf (F := F) c M6) (f7 : Bf (F := F) c M7) (E : Set ℕ) (Q : PUnit → sProp 𝕄),
        iprop(tpt c M1 f1 ∗ pt c M2 f2 ∗ pt c M3 f3 ∗ pt c M4 f4 ∗ pt c M5 f5 ∗ pt c M6 f6 ∗ pt c M7 f7
          ∗ (iprop(tpt c M1 f1 ∗ pt c M2 f2 ∗ pt c M3 f3 ∗ pt c M4 f4 ∗ pt c M5 W ∗ (∃ f, pt c M6 f) ∗ (∃ f, pt c M7 f)) -∗ Q ⟨⟩))
        ⊢ wp frame (wpE (defs₀ (F := F)) Variants.none c none) E
            (cc0_grouped_fp8_matmul i M1 h1 M2 h2 M3 h3 M4 h4 M5 h5 M6 h6 M7 h7) Q } := by
  refine ⟨?_, fun f2 f3 f4 f5 f6 f7 E Q => ?run⟩
  case run =>
    iintro ⟨H1, H2, H3, H4, H5, H6, H7, Hk⟩
    sl_exec_parts! (disch := first | exact hc1 | exact hc2)
    sl_step
    iapply Hk
    isplitl [H1]; · iexact H1
    isplitl [H2]; · iexact H2
    isplitl [H3]; · iexact H3
    isplitl [H4]; · iexact H4
    isplitl [H5]; · iexact H5
    isplitl [H6]; · iexists _; iexact H6
    iexists _; iexact H7

/-- A negative group size: the body stores nothing. -/
theorem runNeg (c : Dev nD) (i : grid0.Coords)
    (M1 : Memref sig .tc .smem S16 .i32) (h1 : M1.IsWhole) (M2 : Memref sig .tc .smem S16x6x40 .f32) (h2 : M2.IsWhole)
    (M3 : Memref sig .tc .vmem S1x128x5120 .bf16) (h3 : M3.IsWhole) (M4 : Memref sig .tc .vmem S1x768x5120 .fp8e4m3) (h4 : M4.IsWhole)
    (M5 : Memref sig .tc .vmem S1x128x768 .bf16) (h5 : M5.IsWhole) (M6 : Memref sig .tc .vmem S128x5120 .bf16) (h6 : M6.IsWhole)
    (M7 : Memref sig .tc .vmem S128x5120 .bf16) (h7 : M7.IsWhole)
    (f1 : Bf (F := F) c M1)
    (hc1 : ¬ k0_cond1 (word c i M1 f1) = 1#1) (hc2 : ¬ k0_cond2 (word c i M1 f1) = 1#1)
    (f2 : Bf (F := F) c M2) (f3 : Bf (F := F) c M3) (f4 : Bf (F := F) c M4) (f5 : Bf (F := F) c M5) (f6 : Bf (F := F) c M6) (f7 : Bf (F := F) c M7) (E : Set ℕ) (Q : PUnit → sProp 𝕄) :
    iprop(tpt c M1 f1 ∗ pt c M2 f2 ∗ pt c M3 f3 ∗ pt c M4 f4 ∗ pt c M5 f5 ∗ pt c M6 f6 ∗ pt c M7 f7
          ∗ (iprop(tpt c M1 f1 ∗ pt c M2 f2 ∗ pt c M3 f3 ∗ pt c M4 f4 ∗ pt c M5 f5 ∗ (∃ f, pt c M6 f) ∗ (∃ f, pt c M7 f)) -∗ Q ⟨⟩))
        ⊢ wp frame (wpE (defs₀ (F := F)) Variants.none c none) E
            (cc0_grouped_fp8_matmul i M1 h1 M2 h2 M3 h3 M4 h4 M5 h5 M6 h6 M7 h7) Q := by
  iintro ⟨H1, H2, H3, H4, H5, H6, H7, Hk⟩
  sl_exec_parts! (disch := first | exact hc1 | exact hc2)
  sl_step
  iapply Hk
  isplitl [H1]; · iexact H1
  isplitl [H2]; · iexact H2
  isplitl [H3]; · iexact H3
  isplitl [H4]; · iexact H4
  isplitl [H5]; · iexact H5
  isplitl [H6]; · iexists _; iexact H6
  iexists _; iexact H7

/-- No group size is both zero and positive. -/
theorem not_both (v : BitVec 32) (h1 : k0_cond1 v = 1#1) : ¬ k0_cond2 v = 1#1 := by
  by_cases hv : v = 0#32
  · subst hv; decide
  · have hb : (v == 0#32) = false := by simp [hv]
    exfalso; revert h1
    simp only [k0_cond1, Scalar.cmpi, Scalar.extui, IntOp.cmpi, hb]
    decide

end Cert.Kernel.Hand

end
-- ==== Proof.KernelFrame.lean ====
/- The kernel's run on its grid: the contents of its tables and windows, the body obligation at every point, and the
   frame: the arguments unchanged and every semaphore counter at zero. -/
module

public import proofs.«01_k».proof.Proof.KernelBody
public import Idealize.ShloMosaic.Lib.Claim
public import Idealize.ShloMosaic.Lib.Pipeline.TableIdle

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_grouped_fp8_matmul (grid0.coords t) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (Memref.whole cc0_scratch0) (Memref.isWhole_whole _) (Memref.whole cc0_scratch1) (Memref.isWhole_whole _)

/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The tables' contents as ADMISSIBLE contents, and the pipeline at them: what the launch theorem runs
    (Lib/Pipeline/Frame.lean `θ_run_frameP`). -/
abbrev adm : (pcfg0 (F := F)).Adm := ⟨tbl m, trivial⟩
abbrev cfgM : Pipeline.Cfg sig Λ₀ := cfg0 (adm m)

/-- Each table as the body is handed it: its whole buffer as a memref, and that memref's wholeness. -/
abbrev tbM0_0 : Memref sig .tc .smem S16 .i32 := Memref.whole main_arg1
abbrev htbM0_0 : tbM0_0.IsWhole := Memref.isWhole_whole _

/-- The tables' halves the region hands the body (Lib/Pipeline/Frame.lean `ΦT`), table by table: what the body
    obligation hands the run and takes back. -/
theorem PhiT0_eq (c : Dev nD) : (Pipeline.ΦT pre0 (tbl m) c : sProp 𝕄) = iprop(tpt c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- Each window's current staging memref at point `t`, spelled as the pipeline passes it (`bodyAt0`), and its wholeness. -/
abbrev ms0_0 (t : Fin (cfgM m).N) : Memref sig .tc .smem S16x6x40 .f32 := spec0_0.stage ((cfgM m).slots t 0)
abbrev hs0_0 (t : Fin (cfgM m).N) : (ms0_0 m t).IsWhole := hstage0_0 (((cfgM m).slots t 0).cast nbuf0_0)
abbrev ms0_1 (t : Fin (cfgM m).N) : Memref sig .tc .vmem S1x128x5120 .bf16 := spec0_1.stage ((cfgM m).slots t 1)
abbrev hs0_1 (t : Fin (cfgM m).N) : (ms0_1 m t).IsWhole := hstage0_1 (((cfgM m).slots t 1).cast nbuf0_1)
abbrev ms0_2 (t : Fin (cfgM m).N) : Memref sig .tc .vmem S1x768x5120 .fp8e4m3 := spec0_2.stage ((cfgM m).slots t 2)
abbrev hs0_2 (t : Fin (cfgM m).N) : (ms0_2 m t).IsWhole := hstage0_2 (((cfgM m).slots t 2).cast nbuf0_2)
abbrev ms0_3 (t : Fin (cfgM m).N) : Memref sig .tc .vmem S1x128x768 .bf16 := spec0_3.stage ((cfgM m).slots t 3)
abbrev hs0_3 (t : Fin (cfgM m).N) : (ms0_3 m t).IsWhole := hstage0_3 (((cfgM m).slots t 3).cast nbuf0_3)
/-- The scratch operands: whole scoped buffers of the kernel's own, passed beside the windows. -/
abbrev scM0_0 : Memref sig .tc .vmem S128x5120 .bf16 := Memref.whole cc0_scratch0
abbrev scM0_1 : Memref sig .tc .vmem S128x5120 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## What the body leaves in the output's buffer -/

/-- The group size of point `t`, as the body loads it. -/
abbrev sizeAt (c : Dev nD) (t : Fin (cfgM m).N) : BitVec 32 := word (F := F) c (grid0.coords t) tbM0_0 (tbl m 0)

/-- What the body leaves in the output's staging buffer at point `t`: by the group's size, the product block, zeros, or
    (a negative size, of which nothing is said) anything. -/
def outAt (c : Dev nD) (t : Fin (cfgM m).N) : Vec F S1x128x768 .bf16 :=
  if h1 : k0_cond1 (sizeAt m c t) = 1#1 then
    (ms0_3 m t).view.read (Elt F) (runZero c (grid0.coords t) tbM0_0 htbM0_0 (ms0_0 m t) (hs0_0 m t) (ms0_1 m t) (hs0_1 m t)
      (ms0_2 m t) (hs0_2 m t) (ms0_3 m t) (hs0_3 m t) scM0_0 (Memref.isWhole_whole _) scM0_1 (Memref.isWhole_whole _) (tbl m 0) h1 (not_both _ h1)).1
  else if h2 : k0_cond2 (sizeAt m c t) = 1#1 then
    (ms0_3 m t).view.read (Elt F) (runPos c (grid0.coords t) tbM0_0 htbM0_0 (ms0_0 m t) (hs0_0 m t) (ms0_1 m t) (hs0_1 m t)
      (ms0_2 m t) (hs0_2 m t) (ms0_3 m t) (hs0_3 m t) scM0_0 (Memref.isWhole_whole _) scM0_1 (Memref.isWhole_whole _) (tbl m 0)
      ((hs0_0 m t).unread (iblk m c 0 t)) ((hs0_1 m t).unread (iblk m c 1 t)) ((hs0_2 m t).unread (iblk m c 2 t)) h1 h2).1
  else (ms0_3 m t).view.read (Elt F) (ms0_3 m t).view.junk

/-! ## The pipeline's proof data -/

/-- The proof data of the one pipeline on core `c`: the arrays as the region finds them; after the body at point `t` each
    input's buffer at its block and the output's at `outAt`; nothing owed; full shares. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outAt m c t)
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after0_0 (c : Dev nD) (t : Fin (cfgM m).N) : (dats m 0 c).after 0 t = iblk m c 0 t := by dsimp only [dats]; try rfl
theorem after0_1 (c : Dev nD) (t : Fin (cfgM m).N) : (dats m 0 c).after 1 t = iblk m c 1 t := by dsimp only [dats]; try rfl
theorem after0_2 (c : Dev nD) (t : Fin (cfgM m).N) : (dats m 0 c).after 2 t = iblk m c 2 t := by dsimp only [dats]; try rfl
theorem after0_3 (c : Dev nD) (t : Fin (cfgM m).N) : (dats m 0 c).after 3 t = (outAt m c t) := by dsimp only [dats]; try rfl

theorem before0_0 (c : Dev nD) (t : Fin (cfgM m).N) (d) : (dats m 0 c).before 0 t d = iblk m c 0 t :=
  before0_0_of m (dats m 0 c) (A_eq m c 0) (after0_0 m c) t d
theorem before0_1 (c : Dev nD) (t : Fin (cfgM m).N) (d) : (dats m 0 c).before 1 t d = iblk m c 1 t :=
  before0_1_of m (dats m 0 c) (A_eq m c 1) (after0_1 m c) t d
theorem before0_2 (c : Dev nD) (t : Fin (cfgM m).N) (d) : (dats m 0 c).before 2 t d = iblk m c 2 t :=
  before0_2_of m (dats m 0 c) (A_eq m c 2) (after0_2 m c) t d

/-! ## The body obligation, at a generic point -/

/-- What the body is called with at point `t`. -/
def bodyPre (c : Dev nD) (t : Fin (cfgM m).N) : sProp 𝕄 :=
  iprop((dats m 0 c).Φ t.castSucc ∗ (dats m 0 c).owesAt () t.castSucc
    ∗ (∃ d, owns (c : Thread nD τ) (ms0_0 m t) fullShare ((dats m 0 c).before 0 t d))
    ∗ (∃ d, owns (c : Thread nD τ) (ms0_1 m t) fullShare ((dats m 0 c).before 1 t d))
    ∗ (∃ d, owns (c : Thread nD τ) (ms0_2 m t) fullShare ((dats m 0 c).before 2 t d))
    ∗ (∃ X, owns (c : Thread nD τ) (ms0_3 m t) fullShare X))

/-- What it returns: the output's buffer at `outAt` unless the group's size is negative. -/
def bodyPost (c : Dev nD) (t : Fin (cfgM m).N) : sProp 𝕄 :=
  iprop((dats m 0 c).Φ t.succ ∗ (dats m 0 c).owesAt () t.succ
    ∗ owns (c : Thread nD τ) (ms0_0 m t) fullShare ((dats m 0 c).after 0 t)
    ∗ owns (c : Thread nD τ) (ms0_1 m t) fullShare ((dats m 0 c).after 1 t)
    ∗ owns (c : Thread nD τ) (ms0_2 m t) fullShare ((dats m 0 c).after 2 t)
    ∗ (∃ X, ⌜k0_cond1 (sizeAt m c t) = 1#1 ∨ k0_cond2 (sizeAt m c t) = 1#1 → X = outAt m c t⌝ ∗ owns (c : Thread nD τ) (ms0_3 m t) fullShare X))

/-- From what a run takes to what it leaves, whichever the branch: `W` is what the run leaves in the output's buffer. -/
theorem sound_of (c : Dev nD) (t : Fin (cfgM m).N)
    (h : ∀ f5 : Bf (F := F) c (ms0_3 m t), ∃ W : Bf (F := F) c (ms0_3 m t),
      (k0_cond1 (sizeAt m c t) = 1#1 ∨ k0_cond2 (sizeAt m c t) = 1#1 → (ms0_3 m t).view.read (Elt F) W = outAt m c t) ∧
      ∀ (f6 : Bf (F := F) c scM0_0) (f7 : Bf (F := F) c scM0_1) (Q : PUnit → sProp 𝕄),
        iprop(tpt c tbM0_0 (tbl m 0) ∗ pt c (ms0_0 m t) ((hs0_0 m t).unread (iblk m c 0 t)) ∗ pt c (ms0_1 m t) ((hs0_1 m t).unread (iblk m c 1 t))
          ∗ pt c (ms0_2 m t) ((hs0_2 m t).unread (iblk m c 2 t)) ∗ pt c (ms0_3 m t) f5 ∗ pt c scM0_0 f6 ∗ pt c scM0_1 f7
          ∗ (iprop(tpt c tbM0_0 (tbl m 0) ∗ pt c (ms0_0 m t) ((hs0_0 m t).unread (iblk m c 0 t)) ∗ pt c (ms0_1 m t) ((hs0_1 m t).unread (iblk m c 1 t))
            ∗ pt c (ms0_2 m t) ((hs0_2 m t).unread (iblk m c 2 t)) ∗ pt c (ms0_3 m t) W ∗ (∃ f, pt c scM0_0 f) ∗ (∃ f, pt c scM0_1 f)) -∗ Q ⟨⟩))
        ⊢ wp frame (wpE (defs₀ (F := F)) Variants.none c none) Set.univ (bodyAt0 (adm m) t) Q) :
    bodyPre m c t ⊢ wp frame (wpE (defs₀ (F := F)) Variants.none c none) Set.univ (bodyAt0 (adm m) t) (fun _ => bodyPost m c t) := by
  unfold bodyPre bodyPost
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = iprop(Pipeline.ΦA spec0 c ∗ Pipeline.ΦT pre0 (tbl m) c) from rfl, PhiT0_eq, PhiA0_eq]
  unfold owns
  rw [(hs0_0 m t).set_eq_univ, (hs0_1 m t).set_eq_univ, (hs0_2 m t).set_eq_univ, (hs0_3 m t).set_eq_univ,
    (Memref.isWhole_whole cc0_scratch0 : scM0_0.IsWhole).set_eq_univ, (Memref.isWhole_whole cc0_scratch1 : scM0_1.IsWhole).set_eq_univ]
  iintro ⟨⟨⟨⟨⟨%ds0, %fs0, -, HS0⟩, ⟨%ds1, %fs1, -, HS1⟩⟩, Hg⟩, HT0⟩, Ho, ⟨%d0, %f0, %hf0, H0⟩, ⟨%d1, %f1, %hf1, H1⟩, ⟨%d2, %f2, %hf2, H2⟩, ⟨%d3, %f3, -, H3⟩⟩
  obtain rfl := (hs0_0 m t).eq_unread hf0; obtain rfl := (hs0_1 m t).eq_unread hf1; obtain rfl := (hs0_2 m t).eq_unread hf2
  obtain ⟨W, hW, hrun⟩ := h f3
  iapply (hrun fs0 fs1 _)
  isplitl [HT0]; · iexact HT0
  isplitl [H0]; · iexact H0
  isplitl [H1]; · iexact H1
  isplitl [H2]; · iexact H2
  isplitl [H3]; · iexact H3
  isplitl [HS0]; · iexact HS0
  isplitl [HS1]; · iexact HS1
  iintro ⟨HT0, H0, H1, H2, H3, ⟨%fT0, HS0⟩, ⟨%fT1, HS1⟩⟩
  isplitl [HS0 HS1 Hg HT0]
  · isplitl [HS0 HS1 Hg]
    · isplitl [HS0 HS1]
      · isplitl [HS0]
        · iexists _; iexists _; isplitr
          swap; · iexact HS0
          ipureintro; rfl
        iexists _; iexists _; isplitr
        swap; · iexact HS1
        ipureintro; rfl
      iexact Hg
    iexact HT0
  isplitl [Ho]; · iexact Ho
  isplitl [H0]
  · iexists _; isplitr
    swap; · iexact H0
    ipureintro; exact hf0
  isplitl [H1]
  · iexists _; isplitr
    swap; · iexact H1
    ipureintro; exact hf1
  isplitl [H2]
  · iexists _; isplitr
    swap; · iexact H2
    ipureintro; exact hf2
  iexists _
  isplitr
  swap
  · iexists _; isplitr
    swap; · iexact H3
    ipureintro; rfl
  ipureintro; exact hW

/-- The body at any point, whichever branch its group's size selects. -/
theorem sound_body (c : Dev nD) (t : Fin (cfgM m).N) :
    bodyPre m c t ⊢ wp frame (wpE (defs₀ (F := F)) Variants.none c none) Set.univ (bodyAt0 (adm m) t) (fun _ => bodyPost m c t) := by
  refine sound_of m c t fun f5 => ?_
  by_cases h1 : k0_cond1 (sizeAt m c t) = 1#1
  · refine ⟨_, fun _ => ?_, fun f6 f7 Q => (runZero c (grid0.coords t) tbM0_0 htbM0_0 (ms0_0 m t) (hs0_0 m t) (ms0_1 m t) (hs0_1 m t)
      (ms0_2 m t) (hs0_2 m t) (ms0_3 m t) (hs0_3 m t) scM0_0 (Memref.isWhole_whole _) scM0_1 (Memref.isWhole_whole _) (tbl m 0) h1 (not_both _ h1)).2 _ _ _ f5 f6 f7 Set.univ Q⟩
    unfold outAt; rw [dif_pos h1]
  · by_cases h2 : k0_cond2 (sizeAt m c t) = 1#1
    · refine ⟨_, fun _ => ?_, fun f6 f7 Q => (runPos c (grid0.coords t) tbM0_0 htbM0_0 (ms0_0 m t) (hs0_0 m t) (ms0_1 m t) (hs0_1 m t)
        (ms0_2 m t) (hs0_2 m t) (ms0_3 m t) (hs0_3 m t) scM0_0 (Memref.isWhole_whole _) scM0_1 (Memref.isWhole_whole _) (tbl m 0) _ _ _ h1 h2).2 f5 f6 f7 Set.univ Q⟩
      unfold outAt; rw [dif_neg h1, dif_pos h2]
    · refine ⟨f5, fun h => absurd h (not_or.2 ⟨h1, h2⟩), fun f6 f7 Q => runNeg c (grid0.coords t) tbM0_0 htbM0_0 (ms0_0 m t) (hs0_0 m t) (ms0_1 m t) (hs0_1 m t)
        (ms0_2 m t) (hs0_2 m t) (ms0_3 m t) (hs0_3 m t) scM0_0 (Memref.isWhole_whole _) scM0_1 (Memref.isWhole_whole _) (tbl m 0) h1 h2 _ _ _ f5 f6 f7 Set.univ Q⟩

/-- The body table's row at point `t`'s slots is the body as `bodyAt0` spells it. -/
theorem defs₀_row (t : Fin (cfgM m).N) :
    defs₀ (F := F) .tc (cfgM m).body ((cfgM m).bodyArgs t ((cfgM m).slots t)) = bodyAt0 (adm m) t := by
  unfold defs₀; rw [Defs.onTc_tc]

/-- The output window is the one a frame says nothing of. -/
abbrev fgt : Fin 4 → Bool := fun | 0 => false | 1 => false | 2 => false | 3 => true | ⟨_ + 4, h⟩ => absurd h (Nat.not_lt.2 (Nat.le_add_left _ _))

/-- The library's body obligation at every point, the output's contents forgotten. -/
theorem body_obligation_forget (c : Dev nD) : BodyObligation (dats (F := F) m 0 c) (defs₀ (F := F)) Variants.none () Set.univ fgt := fun t => by
  rw [bigSep_W0, bigSep_W0, defs₀_row m]
  refine triple_restated (sound_body m c t) rfl .rfl fun _ => ?_
  unfold bodyPost
  iintro ⟨HP, Ho, H0, H1, H2, ⟨%X, -, H3⟩⟩
  isplitl [HP]; · iexact HP
  isplitl [Ho]; · iexact Ho
  isplitl [H0]; · iexact H0
  isplitl [H1]; · iexact H1
  isplitl [H2]; · iexact H2
  iexists X; iexact H3

/-- No group's size is negative: at every point one of the two branches runs. -/
abbrev Sized : Prop := ∀ (c : Dev nD) (t : Fin (cfgM m).N), k0_cond1 (sizeAt m c t) = 1#1 ∨ k0_cond2 (sizeAt m c t) = 1#1

/-! ## The run and the frame -/

set_option backward.isDefEq.respectTransparency.types false in
/-- The launch, the output's contents forgotten: every weakly fair execution ends, every other buffer unchanged, every
    semaphore counter at zero. -/
theorem run_forget : θ_run defs (onTc (τ := τ) (main (F := F))) (s₀ m ρ)
    (fun r => Pipeline.RDat.FramePost (cfgM m) (fun c => (dats m 0 c).toRForget fgt) (V m) r ∧ r.2.sem = fun _ => 0) :=
  Pipeline.θ_run_frameP_forget (Q' := _) pcfgs (fun _ => adm m) (dats m) (0 : Fin 1) launch0 defs₀ Variants.none fgt m ρ main
    (hbody := fun c => (body_obligation_forget m c).loose) (hshare := fun c => (dats m 0 c).share_full fun _ => rfl)
    (howed := fun _ _ => rfl) (V := V m) (hmain := hmain m Variants.none) (hA := A_eq m) (hpf := V_pre m)
    (hΦ := fun _ _ => rfl)

/-- THE FRAME, for any contents of the table: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨
      (((h.1 c).1 1).trans (A_eq m c 1)).trans (V_main_arg0 m c),
      ((h.1 c).2 main_arg1 (by decide : main_arg1 ∈ Pipeline.restRefs sig spec0)).trans (V_main_arg1 m c),
      (((h.1 c).1 2).trans (A_eq m c 2)).trans (V_main_arg2 m c),
      (((h.1 c).1 0).trans (A_eq m c 0)).trans (V_main_arg3 m c)⟩, h.2⟩) (run_forget m ρ)

end Cert.Kernel.Hand

end
-- ==== Proof.IdealBody.lean ====
/- The kernel body run on any whole buffers, one theorem per branch the group's size selects. -/
module

public import proofs.«01_k».proof.Proof.Gen.KernelIdeal.Skeleton
public import proofs.«01_k».proof.Proof.Gen.KernelIdeal.Launch
public import Idealize.ShloMosaic.Lib.Tactic
public import Idealize.ShloMosaic.Lib.Pipeline.Frame
public import Idealize.ShloMosaic.Lib.Pipeline.FrameBody

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The contents of a memref's whole buffer on core `c`. -/
abbrev Bf (c : Dev nD) {sp : Space} {S : Shape} {e : EltTy} (M : Memref sig .tc sp S e) : Type := Buf (Elt F) (M.view.loc (c : Thread nD τ))
/-- A memref's whole buffer held at `f`. -/
abbrev pt (c : Dev nD) {sp : Space} {S : Shape} {e : EltTy} (M : Memref sig .tc sp S e) (f : Bf (F := F) c M) : sProp 𝕄 :=
  M.view.loc (c : Thread nD τ) ↦{fullShare} f
/-- The table's buffer held at half the full share. -/
abbrev tpt (c : Dev nD) {S : Shape} {e : EltTy} (M : Memref sig .tc .smem S e) (f : Bf (F := F) c M) : sProp 𝕄 :=
  M.view.loc (c : Thread nD τ) ↦{fullShare.right} f

/-- The group size the body loads from the table at point `i`. -/
abbrev word (c : Dev nD) (i : grid0.Coords) (M1 : Memref sig .tc .smem S16 .i32) (f1 : Bf (F := F) c M1) : BitVec 32 :=
  View.readAt (Elt F) M1.view (Rect.unit (s := S16) (k0_off1 i) S1.size (k0_off1_inb i)).toLoadRect f1 (Shape.Idx.first (show 0 < S1.numel by rw [numel1_S1]; exact Nat.one_pos))

/-- A positive group size: the body quantises, scales and multiplies, and leaves the output buffer at some contents
    `W` that do not depend on what it held. -/
noncomputable def runPos (c : Dev nD) (i : grid0.Coords)
    (M1 : Memref sig .tc .smem S16 .i32) (h1 : M1.IsWhole) (M2 : Memref sig .tc .smem S16x6x40 .f32) (h2 : M2.IsWhole)
    (M3 : Memref sig .tc .vmem S1x128x5120 .bf16) (h3 : M3.IsWhole) (M4 : Memref sig .tc .vmem S1x768x5120 .fp8e4m3) (h4 : M4.IsWhole)
    (M5 : Memref sig .tc .vmem S1x128x768 .bf16) (h5 : M5.IsWhole) (M6 : Memref sig .tc .vmem S128x5120 .bf16) (h6 : M6.IsWhole)
    (M7 : Memref sig .tc .vmem S128x5120 .bf16) (h7 : M7.IsWhole)
    (f1 : Bf (F := F) c M1) (f2 : Bf (F := F) c M2) (f3 : Bf (F := F) c M3) (f4 : Bf (F := F) c M4)
    (hc1 : ¬ k0_cond1 (word c i M1 f1) = 1#1) (hc2 : k0_cond2 (word c i M1 f1) = 1#1) :
    { W : Bf (F := F) c M5 // ∀ (f5 : Bf (F := F) c M5) (f6 : Bf (F := F) c M6) (f7 : Bf (F := F) c M7) (E : Set ℕ) (Q : PUnit → sProp 𝕄),
        iprop(tpt c M1 f1 ∗ pt c M2 f2 ∗ pt c M3 f3 ∗ pt c M4 f4 ∗ pt c M5 f5 ∗ pt c M6 f6 ∗ pt c M7 f7
          ∗ (iprop(tpt c M1 f1 ∗ pt c M2 f2 ∗ pt c M3 f3 ∗ pt c M4 f4 ∗ pt c M5 W ∗ (∃ f, pt c M6 f) ∗ (∃ f, pt c M7 f)) -∗ Q ⟨⟩))
        ⊢ wp frame (wpE (defs₀ (F := F)) Variants.none c none) E
            (cc0_grouped_fp8_matmul i M1 h1 M2 h2 M3 h3 M4 h4 M5 h5 M6 h6 M7 h7) Q } := by
  refine ⟨?_, fun f5 f6 f7 E Q => ?run⟩
  case run =>
    iintro ⟨H1, H2, H3, H4, H5, H6, H7, Hk⟩
    sl_exec_parts! (disch := first | exact hc1 | exact hc2)
    sl_step
    iapply Hk
    isplitl [H1]; · iexact H1
    isplitl [H2]; · iexact H2
    isplitl [H3]; · iexact H3
    isplitl [H4]; · iexact H4
    isplitl [H5]; · iexact H5
    isplitl [H6]; · iexists _; iexact H6
    iexists _; iexact H7

/-- An empty group: the body stores zeros over the output buffer. -/
noncomputable def runZero (c : Dev nD) (i : grid0.Coords)
    (M1 : Memref sig .tc .smem S16 .i32) (h1 : M1.IsWhole) (M2 : Memref sig .tc .smem S16x6x40 .f32) (h2 : M2.IsWhole)
    (M3 : Memref sig .tc .vmem S1x128x5120 .bf16) (h3 : M3.IsWhole) (M4 : Memref sig .tc .vmem S1x768x5120 .fp8e4m3) (h4 : M4.IsWhole)
    (M5 : Memref sig .tc .vmem S1x128x768 .bf16) (h5 : M5.IsWhole) (M6 : Memref sig .tc .vmem S128x5120 .bf16) (h6 : M6.IsWhole)
    (M7 : Memref sig .tc .vmem S128x5120 .bf16) (h7 : M7.IsWhole)
    (f1 : Bf (F := F) c M1)
    (hc1 : k0_cond1 (word c i M1 f1) = 1#1) (hc2 : ¬ k0_cond2 (word c i M1 f1) = 1#1) :
    { W : Bf (F := F) c M5 // ∀ (f2 : Bf (F := F) c M2) (f3 : Bf (F := F) c M3) (f4 : Bf (F := F) c M4) (f5 : Bf (F := F) c M5) (f6 : Bf (F := F) c M6) (f7 : Bf (F := F) c M7) (E : Set ℕ) (Q : PUnit → sProp 𝕄),
        iprop(tpt c M1 f1 ∗ pt c M2 f2 ∗ pt c M3 f3 ∗ pt c M4 f4 ∗ pt c M5 f5 ∗ pt c M6 f6 ∗ pt c M7 f7
          ∗ (iprop(tpt c M1 f1 ∗ pt c M2 f2 ∗ pt c M3 f3 ∗ pt c M4 f4 ∗ pt c M5 W ∗ (∃ f, pt c M6 f) ∗ (∃ f, pt c M7 f)) -∗ Q ⟨⟩))
        ⊢ wp frame (wpE (defs₀ (F := F)) Variants.none c none) E
            (cc0_grouped_fp8_matmul i M1 h1 M2 h2 M3 h3 M4 h4 M5 h5 M6 h6 M7 h7) Q } := by
  refine ⟨?_, fun f2 f3 f4 f5 f6 f7 E Q => ?run⟩
  case run =>
    iintro ⟨H1, H2, H3, H4, H5, H6, H7, Hk⟩
    sl_exec_parts! (disch := first | exact hc1 | exact hc2)
    sl_step
    iapply Hk
    isplitl [H1]; · iexact H1
    isplitl [H2]; · iexact H2
    isplitl [H3]; · iexact H3
    isplitl [H4]; · iexact H4
    isplitl [H5]; · iexact H5
    isplitl [H6]; · iexists _; iexact H6
    iexists _; iexact H7

/-- A negative group size: the body stores nothing. -/
theorem runNeg (c : Dev nD) (i : grid0.Coords)
    (M1 : Memref sig .tc .smem S16 .i32) (h1 : M1.IsWhole) (M2 : Memref sig .tc .smem S16x6x40 .f32) (h2 : M2.IsWhole)
    (M3 : Memref sig .tc .vmem S1x128x5120 .bf16) (h3 : M3.IsWhole) (M4 : Memref sig .tc .vmem S1x768x5120 .fp8e4m3) (h4 : M4.IsWhole)
    (M5 : Memref sig .tc .vmem S1x128x768 .bf16) (h5 : M5.IsWhole) (M6 : Memref sig .tc .vmem S128x5120 .bf16) (h6 : M6.IsWhole)
    (M7 : Memref sig .tc .vmem S128x5120 .bf16) (h7 : M7.IsWhole)
    (f1 : Bf (F := F) c M1)
    (hc1 : ¬ k0_cond1 (word c i M1 f1) = 1#1) (hc2 : ¬ k0_cond2 (word c i M1 f1) = 1#1)
    (f2 : Bf (F := F) c M2) (f3 : Bf (F := F) c M3) (f4 : Bf (F := F) c M4) (f5 : Bf (F := F) c M5) (f6 : Bf (F := F) c M6) (f7 : Bf (F := F) c M7) (E : Set ℕ) (Q : PUnit → sProp 𝕄) :
    iprop(tpt c M1 f1 ∗ pt c M2 f2 ∗ pt c M3 f3 ∗ pt c M4 f4 ∗ pt c M5 f5 ∗ pt c M6 f6 ∗ pt c M7 f7
          ∗ (iprop(tpt c M1 f1 ∗ pt c M2 f2 ∗ pt c M3 f3 ∗ pt c M4 f4 ∗ pt c M5 f5 ∗ (∃ f, pt c M6 f) ∗ (∃ f, pt c M7 f)) -∗ Q ⟨⟩))
        ⊢ wp frame (wpE (defs₀ (F := F)) Variants.none c none) E
            (cc0_grouped_fp8_matmul i M1 h1 M2 h2 M3 h3 M4 h4 M5 h5 M6 h6 M7 h7) Q := by
  iintro ⟨H1, H2, H3, H4, H5, H6, H7, Hk⟩
  sl_exec_parts! (disch := first | exact hc1 | exact hc2)
  sl_step
  iapply Hk
  isplitl [H1]; · iexact H1
  isplitl [H2]; · iexact H2
  isplitl [H3]; · iexact H3
  isplitl [H4]; · iexact H4
  isplitl [H5]; · iexact H5
  isplitl [H6]; · iexists _; iexact H6
  iexists _; iexact H7

/-- No group size is both zero and positive. -/
theorem not_both (v : BitVec 32) (h1 : k0_cond1 v = 1#1) : ¬ k0_cond2 v = 1#1 := by
  by_cases hv : v = 0#32
  · subst hv; decide
  · have hb : (v == 0#32) = false := by simp [hv]
    exfalso; revert h1
    simp only [k0_cond1, Scalar.cmpi, Scalar.extui, IntOp.cmpi, hb]
    decide

end Cert.KernelIdeal.Hand

end
-- ==== Proof.IdealFrame.lean ====
/- The kernel's run on its grid: the contents of its tables and windows, the body obligation at every point, and the
   frame: the arguments unchanged and every semaphore counter at zero. -/
module

public import proofs.«01_k».proof.Proof.IdealBody
public import Idealize.ShloMosaic.Lib.Claim
public import Idealize.ShloMosaic.Lib.Pipeline.TableIdle

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_grouped_fp8_matmul (grid0.coords t) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (Memref.whole cc0_scratch0) (Memref.isWhole_whole _) (Memref.whole cc0_scratch1) (Memref.isWhole_whole _)

/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The tables' contents as ADMISSIBLE contents, and the pipeline at them: what the launch theorem runs
    (Lib/Pipeline/Frame.lean `θ_run_frameP`). -/
abbrev adm : (pcfg0 (F := F)).Adm := ⟨tbl m, trivial⟩
abbrev cfgM : Pipeline.Cfg sig Λ₀ := cfg0 (adm m)

/-- Each table as the body is handed it: its whole buffer as a memref, and that memref's wholeness. -/
abbrev tbM0_0 : Memref sig .tc .smem S16 .i32 := Memref.whole main_arg1
abbrev htbM0_0 : tbM0_0.IsWhole := Memref.isWhole_whole _

/-- The tables' halves the region hands the body (Lib/Pipeline/Frame.lean `ΦT`), table by table: what the body
    obligation hands the run and takes back. -/
theorem PhiT0_eq (c : Dev nD) : (Pipeline.ΦT pre0 (tbl m) c : sProp 𝕄) = iprop(tpt c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- Each window's current staging memref at point `t`, spelled as the pipeline passes it (`bodyAt0`), and its wholeness. -/
abbrev ms0_0 (t : Fin (cfgM m).N) : Memref sig .tc .smem S16x6x40 .f32 := spec0_0.stage ((cfgM m).slots t 0)
abbrev hs0_0 (t : Fin (cfgM m).N) : (ms0_0 m t).IsWhole := hstage0_0 (((cfgM m).slots t 0).cast nbuf0_0)
abbrev ms0_1 (t : Fin (cfgM m).N) : Memref sig .tc .vmem S1x128x5120 .bf16 := spec0_1.stage ((cfgM m).slots t 1)
abbrev hs0_1 (t : Fin (cfgM m).N) : (ms0_1 m t).IsWhole := hstage0_1 (((cfgM m).slots t 1).cast nbuf0_1)
abbrev ms0_2 (t : Fin (cfgM m).N) : Memref sig .tc .vmem S1x768x5120 .fp8e4m3 := spec0_2.stage ((cfgM m).slots t 2)
abbrev hs0_2 (t : Fin (cfgM m).N) : (ms0_2 m t).IsWhole := hstage0_2 (((cfgM m).slots t 2).cast nbuf0_2)
abbrev ms0_3 (t : Fin (cfgM m).N) : Memref sig .tc .vmem S1x128x768 .bf16 := spec0_3.stage ((cfgM m).slots t 3)
abbrev hs0_3 (t : Fin (cfgM m).N) : (ms0_3 m t).IsWhole := hstage0_3 (((cfgM m).slots t 3).cast nbuf0_3)
/-- The scratch operands: whole scoped buffers of the kernel's own, passed beside the windows. -/
abbrev scM0_0 : Memref sig .tc .vmem S128x5120 .bf16 := Memref.whole cc0_scratch0
abbrev scM0_1 : Memref sig .tc .vmem S128x5120 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## What the body leaves in the output's buffer -/

/-- The group size of point `t`, as the body loads it. -/
abbrev sizeAt (c : Dev nD) (t : Fin (cfgM m).N) : BitVec 32 := word (F := F) c (grid0.coords t) tbM0_0 (tbl m 0)

/-- What the body leaves in the output's staging buffer at point `t`: by the group's size, the product block, zeros, or
    (a negative size, of which nothing is said) anything. -/
def outAt (c : Dev nD) (t : Fin (cfgM m).N) : Vec F S1x128x768 .bf16 :=
  if h1 : k0_cond1 (sizeAt m c t) = 1#1 then
    (ms0_3 m t).view.read (Elt F) (runZero c (grid0.coords t) tbM0_0 htbM0_0 (ms0_0 m t) (hs0_0 m t) (ms0_1 m t) (hs0_1 m t)
      (ms0_2 m t) (hs0_2 m t) (ms0_3 m t) (hs0_3 m t) scM0_0 (Memref.isWhole_whole _) scM0_1 (Memref.isWhole_whole _) (tbl m 0) h1 (not_both _ h1)).1
  else if h2 : k0_cond2 (sizeAt m c t) = 1#1 then
    (ms0_3 m t).view.read (Elt F) (runPos c (grid0.coords t) tbM0_0 htbM0_0 (ms0_0 m t) (hs0_0 m t) (ms0_1 m t) (hs0_1 m t)
      (ms0_2 m t) (hs0_2 m t) (ms0_3 m t) (hs0_3 m t) scM0_0 (Memref.isWhole_whole _) scM0_1 (Memref.isWhole_whole _) (tbl m 0)
      ((hs0_0 m t).unread (iblk m c 0 t)) ((hs0_1 m t).unread (iblk m c 1 t)) ((hs0_2 m t).unread (iblk m c 2 t)) h1 h2).1
  else (ms0_3 m t).view.read (Elt F) (ms0_3 m t).view.junk

/-! ## The pipeline's proof data -/

/-- The proof data of the one pipeline on core `c`: the arrays as the region finds them; after the body at point `t` each
    input's buffer at its block and the output's at `outAt`; nothing owed; full shares. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outAt m c t)
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after0_0 (c : Dev nD) (t : Fin (cfgM m).N) : (dats m 0 c).after 0 t = iblk m c 0 t := by dsimp only [dats]; try rfl
theorem after0_1 (c : Dev nD) (t : Fin (cfgM m).N) : (dats m 0 c).after 1 t = iblk m c 1 t := by dsimp only [dats]; try rfl
theorem after0_2 (c : Dev nD) (t : Fin (cfgM m).N) : (dats m 0 c).after 2 t = iblk m c 2 t := by dsimp only [dats]; try rfl
theorem after0_3 (c : Dev nD) (t : Fin (cfgM m).N) : (dats m 0 c).after 3 t = (outAt m c t) := by dsimp only [dats]; try rfl

theorem before0_0 (c : Dev nD) (t : Fin (cfgM m).N) (d) : (dats m 0 c).before 0 t d = iblk m c 0 t :=
  before0_0_of m (dats m 0 c) (A_eq m c 0) (after0_0 m c) t d
theorem before0_1 (c : Dev nD) (t : Fin (cfgM m).N) (d) : (dats m 0 c).before 1 t d = iblk m c 1 t :=
  before0_1_of m (dats m 0 c) (A_eq m c 1) (after0_1 m c) t d
theorem before0_2 (c : Dev nD) (t : Fin (cfgM m).N) (d) : (dats m 0 c).before 2 t d = iblk m c 2 t :=
  before0_2_of m (dats m 0 c) (A_eq m c 2) (after0_2 m c) t d

/-! ## The body obligation, at a generic point -/

/-- What the body is called with at point `t`. -/
def bodyPre (c : Dev nD) (t : Fin (cfgM m).N) : sProp 𝕄 :=
  iprop((dats m 0 c).Φ t.castSucc ∗ (dats m 0 c).owesAt () t.castSucc
    ∗ (∃ d, owns (c : Thread nD τ) (ms0_0 m t) fullShare ((dats m 0 c).before 0 t d))
    ∗ (∃ d, owns (c : Thread nD τ) (ms0_1 m t) fullShare ((dats m 0 c).before 1 t d))
    ∗ (∃ d, owns (c : Thread nD τ) (ms0_2 m t) fullShare ((dats m 0 c).before 2 t d))
    ∗ (∃ X, owns (c : Thread nD τ) (ms0_3 m t) fullShare X))

/-- What it returns: the output's buffer at `outAt` unless the group's size is negative. -/
def bodyPost (c : Dev nD) (t : Fin (cfgM m).N) : sProp 𝕄 :=
  iprop((dats m 0 c).Φ t.succ ∗ (dats m 0 c).owesAt () t.succ
    ∗ owns (c : Thread nD τ) (ms0_0 m t) fullShare ((dats m 0 c).after 0 t)
    ∗ owns (c : Thread nD τ) (ms0_1 m t) fullShare ((dats m 0 c).after 1 t)
    ∗ owns (c : Thread nD τ) (ms0_2 m t) fullShare ((dats m 0 c).after 2 t)
    ∗ (∃ X, ⌜k0_cond1 (sizeAt m c t) = 1#1 ∨ k0_cond2 (sizeAt m c t) = 1#1 → X = outAt m c t⌝ ∗ owns (c : Thread nD τ) (ms0_3 m t) fullShare X))

/-- From what a run takes to what it leaves, whichever the branch: `W` is what the run leaves in the output's buffer. -/
theorem sound_of (c : Dev nD) (t : Fin (cfgM m).N)
    (h : ∀ f5 : Bf (F := F) c (ms0_3 m t), ∃ W : Bf (F := F) c (ms0_3 m t),
      (k0_cond1 (sizeAt m c t) = 1#1 ∨ k0_cond2 (sizeAt m c t) = 1#1 → (ms0_3 m t).view.read (Elt F) W = outAt m c t) ∧
      ∀ (f6 : Bf (F := F) c scM0_0) (f7 : Bf (F := F) c scM0_1) (Q : PUnit → sProp 𝕄),
        iprop(tpt c tbM0_0 (tbl m 0) ∗ pt c (ms0_0 m t) ((hs0_0 m t).unread (iblk m c 0 t)) ∗ pt c (ms0_1 m t) ((hs0_1 m t).unread (iblk m c 1 t))
          ∗ pt c (ms0_2 m t) ((hs0_2 m t).unread (iblk m c 2 t)) ∗ pt c (ms0_3 m t) f5 ∗ pt c scM0_0 f6 ∗ pt c scM0_1 f7
          ∗ (iprop(tpt c tbM0_0 (tbl m 0) ∗ pt c (ms0_0 m t) ((hs0_0 m t).unread (iblk m c 0 t)) ∗ pt c (ms0_1 m t) ((hs0_1 m t).unread (iblk m c 1 t))
            ∗ pt c (ms0_2 m t) ((hs0_2 m t).unread (iblk m c 2 t)) ∗ pt c (ms0_3 m t) W ∗ (∃ f, pt c scM0_0 f) ∗ (∃ f, pt c scM0_1 f)) -∗ Q ⟨⟩))
        ⊢ wp frame (wpE (defs₀ (F := F)) Variants.none c none) Set.univ (bodyAt0 (adm m) t) Q) :
    bodyPre m c t ⊢ wp frame (wpE (defs₀ (F := F)) Variants.none c none) Set.univ (bodyAt0 (adm m) t) (fun _ => bodyPost m c t) := by
  unfold bodyPre bodyPost
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = iprop(Pipeline.ΦA spec0 c ∗ Pipeline.ΦT pre0 (tbl m) c) from rfl, PhiT0_eq, PhiA0_eq]
  unfold owns
  rw [(hs0_0 m t).set_eq_univ, (hs0_1 m t).set_eq_univ, (hs0_2 m t).set_eq_univ, (hs0_3 m t).set_eq_univ,
    (Memref.isWhole_whole cc0_scratch0 : scM0_0.IsWhole).set_eq_univ, (Memref.isWhole_whole cc0_scratch1 : scM0_1.IsWhole).set_eq_univ]
  iintro ⟨⟨⟨⟨⟨%ds0, %fs0, -, HS0⟩, ⟨%ds1, %fs1, -, HS1⟩⟩, Hg⟩, HT0⟩, Ho, ⟨%d0, %f0, %hf0, H0⟩, ⟨%d1, %f1, %hf1, H1⟩, ⟨%d2, %f2, %hf2, H2⟩, ⟨%d3, %f3, -, H3⟩⟩
  obtain rfl := (hs0_0 m t).eq_unread hf0; obtain rfl := (hs0_1 m t).eq_unread hf1; obtain rfl := (hs0_2 m t).eq_unread hf2
  obtain ⟨W, hW, hrun⟩ := h f3
  iapply (hrun fs0 fs1 _)
  isplitl [HT0]; · iexact HT0
  isplitl [H0]; · iexact H0
  isplitl [H1]; · iexact H1
  isplitl [H2]; · iexact H2
  isplitl [H3]; · iexact H3
  isplitl [HS0]; · iexact HS0
  isplitl [HS1]; · iexact HS1
  iintro ⟨HT0, H0, H1, H2, H3, ⟨%fT0, HS0⟩, ⟨%fT1, HS1⟩⟩
  isplitl [HS0 HS1 Hg HT0]
  · isplitl [HS0 HS1 Hg]
    · isplitl [HS0 HS1]
      · isplitl [HS0]
        · iexists _; iexists _; isplitr
          swap; · iexact HS0
          ipureintro; rfl
        iexists _; iexists _; isplitr
        swap; · iexact HS1
        ipureintro; rfl
      iexact Hg
    iexact HT0
  isplitl [Ho]; · iexact Ho
  isplitl [H0]
  · iexists _; isplitr
    swap; · iexact H0
    ipureintro; exact hf0
  isplitl [H1]
  · iexists _; isplitr
    swap; · iexact H1
    ipureintro; exact hf1
  isplitl [H2]
  · iexists _; isplitr
    swap; · iexact H2
    ipureintro; exact hf2
  iexists _
  isplitr
  swap
  · iexists _; isplitr
    swap; · iexact H3
    ipureintro; rfl
  ipureintro; exact hW

/-- The body at any point, whichever branch its group's size selects. -/
theorem sound_body (c : Dev nD) (t : Fin (cfgM m).N) :
    bodyPre m c t ⊢ wp frame (wpE (defs₀ (F := F)) Variants.none c none) Set.univ (bodyAt0 (adm m) t) (fun _ => bodyPost m c t) := by
  refine sound_of m c t fun f5 => ?_
  by_cases h1 : k0_cond1 (sizeAt m c t) = 1#1
  · refine ⟨_, fun _ => ?_, fun f6 f7 Q => (runZero c (grid0.coords t) tbM0_0 htbM0_0 (ms0_0 m t) (hs0_0 m t) (ms0_1 m t) (hs0_1 m t)
      (ms0_2 m t) (hs0_2 m t) (ms0_3 m t) (hs0_3 m t) scM0_0 (Memref.isWhole_whole _) scM0_1 (Memref.isWhole_whole _) (tbl m 0) h1 (not_both _ h1)).2 _ _ _ f5 f6 f7 Set.univ Q⟩
    unfold outAt; rw [dif_pos h1]
  · by_cases h2 : k0_cond2 (sizeAt m c t) = 1#1
    · refine ⟨_, fun _ => ?_, fun f6 f7 Q => (runPos c (grid0.coords t) tbM0_0 htbM0_0 (ms0_0 m t) (hs0_0 m t) (ms0_1 m t) (hs0_1 m t)
        (ms0_2 m t) (hs0_2 m t) (ms0_3 m t) (hs0_3 m t) scM0_0 (Memref.isWhole_whole _) scM0_1 (Memref.isWhole_whole _) (tbl m 0) _ _ _ h1 h2).2 f5 f6 f7 Set.univ Q⟩
      unfold outAt; rw [dif_neg h1, dif_pos h2]
    · refine ⟨f5, fun h => absurd h (not_or.2 ⟨h1, h2⟩), fun f6 f7 Q => runNeg c (grid0.coords t) tbM0_0 htbM0_0 (ms0_0 m t) (hs0_0 m t) (ms0_1 m t) (hs0_1 m t)
        (ms0_2 m t) (hs0_2 m t) (ms0_3 m t) (hs0_3 m t) scM0_0 (Memref.isWhole_whole _) scM0_1 (Memref.isWhole_whole _) (tbl m 0) h1 h2 _ _ _ f5 f6 f7 Set.univ Q⟩

/-- The body table's row at point `t`'s slots is the body as `bodyAt0` spells it. -/
theorem defs₀_row (t : Fin (cfgM m).N) :
    defs₀ (F := F) .tc (cfgM m).body ((cfgM m).bodyArgs t ((cfgM m).slots t)) = bodyAt0 (adm m) t := by
  unfold defs₀; rw [Defs.onTc_tc]

/-- The output window is the one a frame says nothing of. -/
abbrev fgt : Fin 4 → Bool := fun | 0 => false | 1 => false | 2 => false | 3 => true | ⟨_ + 4, h⟩ => absurd h (Nat.not_lt.2 (Nat.le_add_left _ _))

/-- The library's body obligation at every point, the output's contents forgotten. -/
theorem body_obligation_forget (c : Dev nD) : BodyObligation (dats (F := F) m 0 c) (defs₀ (F := F)) Variants.none () Set.univ fgt := fun t => by
  rw [bigSep_W0, bigSep_W0, defs₀_row m]
  refine triple_restated (sound_body m c t) rfl .rfl fun _ => ?_
  unfold bodyPost
  iintro ⟨HP, Ho, H0, H1, H2, ⟨%X, -, H3⟩⟩
  isplitl [HP]; · iexact HP
  isplitl [Ho]; · iexact Ho
  isplitl [H0]; · iexact H0
  isplitl [H1]; · iexact H1
  isplitl [H2]; · iexact H2
  iexists X; iexact H3

/-- No group's size is negative: at every point one of the two branches runs. -/
abbrev Sized : Prop := ∀ (c : Dev nD) (t : Fin (cfgM m).N), k0_cond1 (sizeAt m c t) = 1#1 ∨ k0_cond2 (sizeAt m c t) = 1#1

/-! ## The run and the frame -/

set_option backward.isDefEq.respectTransparency.types false in
/-- The launch, the output's contents forgotten: every weakly fair execution ends, every other buffer unchanged, every
    semaphore counter at zero. -/
theorem run_forget : θ_run defs (onTc (τ := τ) (main (F := F))) (s₀ m ρ)
    (fun r => Pipeline.RDat.FramePost (cfgM m) (fun c => (dats m 0 c).toRForget fgt) (V m) r ∧ r.2.sem = fun _ => 0) :=
  Pipeline.θ_run_frameP_forget (Q' := _) pcfgs (fun _ => adm m) (dats m) (0 : Fin 1) launch0 defs₀ Variants.none fgt m ρ main
    (hbody := fun c => (body_obligation_forget m c).loose) (hshare := fun c => (dats m 0 c).share_full fun _ => rfl)
    (howed := fun _ _ => rfl) (V := V m) (hmain := hmain m Variants.none) (hA := A_eq m) (hpf := V_pre m)
    (hΦ := fun _ _ => rfl)

/-- THE FRAME, for any contents of the table: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨
      (((h.1 c).1 1).trans (A_eq m c 1)).trans (V_main_arg0 m c),
      ((h.1 c).2 main_arg1 (by decide : main_arg1 ∈ Pipeline.restRefs sig spec0)).trans (V_main_arg1 m c),
      (((h.1 c).1 2).trans (A_eq m c 2)).trans (V_main_arg2 m c),
      (((h.1 c).1 0).trans (A_eq m c 0)).trans (V_main_arg3 m c)⟩, h.2⟩) (run_forget m ρ)

end Cert.KernelIdeal.Hand

end
-- ==== Proof.IdealPieces.lean ====
/- What the body's positive branch leaves, with its 40 quantised blocks, 6 × 40 scaled slabs and 6 output blocks stated
   as one piece list each. -/
module

public import proofs.«01_k».proof.Proof.IdealBody

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

theorem inb_col {k : ℕ} (hk : k < 40) : ∀ a : Fin 2, (![0, 128 * k] : Fin 2 → ℕ) a + S128x128.size a ≤ S128x5120.size a := by
  intro a; fin_cases a
  · show 0 + 128 ≤ 128; omega
  · show 128 * k + 128 ≤ 5120; omega
theorem inb_xcol {k : ℕ} (hk : k < 40) : ∀ a : Fin 3, (![0, 0, 128 * k] : Fin 3 → ℕ) a + S1x128x128.size a ≤ S1x128x5120.size a := by
  intro a; fin_cases a
  · show 0 + 1 ≤ 1; omega
  · show 0 + 128 ≤ 128; omega
  · show 128 * k + 128 ≤ 5120; omega
theorem inb_ocol {b : ℕ} (hb : b < 6) : ∀ a : Fin 3, (![0, 0, 128 * b] : Fin 3 → ℕ) a + S1x128x128.size a ≤ S1x128x768.size a := by
  intro a; fin_cases a
  · show 0 + 1 ≤ 1; omega
  · show 0 + 128 ≤ 128; omega
  · show 128 * b + 128 ≤ 768; omega
theorem inb_wrow {b : ℕ} (hb : b < 6) : ∀ a : Fin 3, (![0, 128 * b, 0] : Fin 3 → ℕ) a + S1x128x5120.size a ≤ S1x768x5120.size a := by
  intro a; fin_cases a
  · show 0 + 1 ≤ 1; omega
  · show 128 * b + 128 ≤ 768; omega
  · show 0 + 5120 ≤ 5120; omega
/-- The offsets of the scale of output block `b` and input block `k` of point `i`'s expert. -/
def soff (i : grid0.Coords) (b k : ℕ) : Fin 3 → ℕ := ![(Scalar.indexCast (BitVec.ofNat 32 (i 0).val) : Index).toNat, b, k]
theorem inb_soff (i : grid0.Coords) {b k : ℕ} (hb : b < 6) (hk : k < 40) : ∀ a : Fin 3, soff i b k a + S1x1x1.size a ≤ S16x6x40.size a := by
  intro a
  have h := k0_off2_inb i (0 : Fin 3)
  fin_cases a
  · exact h
  · show b + 1 ≤ 6; omega
  · show k + 1 ≤ 40; omega

/-- Column block `k` of a [128, 5120] scratch buffer. -/
abbrev colRect {k : ℕ} (hk : k < 40) : Rect S128x5120 := Rect.unit ![0, 128 * k] S128x128.size (inb_col hk)

/-- The quantise step of one [128, 128] block of activations, codes times scale. -/
abbrev quantBlk (xb : Vec F S1x128x128 .bf16) : FVec F S128x128 .bf16 := k0_pay8 (k0_pay6 xb) (k0_pay7 xb) (FloatOps.ofBits FTy.f32 3286237184#32)

/-- The first `n` column blocks stored in order over the writes `L`, block `k` at `P k`. -/
def colPieces (P : (k : ℕ) → k < 40 → Vec F S128x128 .bf16) (L : List (View.Piece (Elt F) S128x5120 .bf16)) :
    (n : ℕ) → n ≤ 40 → List (View.Piece (Elt F) S128x5120 .bf16)
  | 0, _ => L
  | n + 1, h => ⟨colRect (k := n) h, P n h⟩ :: colPieces P L n (Nat.le_of_succ_le h)

/-- The block of activations the body loads for block `k`. -/
abbrev xblkAt (c : Dev nD) (M3 : Memref sig .tc .vmem S1x128x5120 .bf16) (f3 : Bf (F := F) c M3) (k : ℕ) (hk : k < 40) : Vec F S1x128x128 .bf16 :=
  View.readAt (Elt F) M3.view (Rect.unit (s := S1x128x5120) ![0, 0, 128 * k] S1x128x128.size (inb_xcol hk)).toLoadRect f3

/-- The scale the body loads for output block `b` and input block `k`. -/
abbrev scaleAt (c : Dev nD) (i : grid0.Coords) (M2 : Memref sig .tc .smem S16x6x40 .f32) (f2 : Bf (F := F) c M2) (b : ℕ) (hb : b < 6) (k : ℕ) (hk : k < 40) : Elt F .f32 :=
  View.readAt (Elt F) M2.view (Rect.unit (s := S16x6x40) (soff i b k) S1x1x1.size (inb_soff i hb hk)).toLoadRect f2 (Shape.Idx.first (show 0 < S1x1x1.numel by rw [numel1_S1x1x1]; exact Nat.one_pos))

/-- The quantised activations: every column block at `quantBlk` of the block loaded. -/
abbrev xqPieces (c : Dev nD) (M3 : Memref sig .tc .vmem S1x128x5120 .bf16) (f3 : Bf (F := F) c M3) : List (View.Piece (Elt F) S128x5120 .bf16) :=
  colPieces (fun k hk => quantBlk (xblkAt c M3 f3 k hk)) [] 40 (Nat.le_refl _)

set_option maxRecDepth 100000 in
theorem H6_eq (c : Dev nD) (M3 : Memref sig .tc .vmem S1x128x5120 .bf16) (f3 : Bf (F := F) c M3) :
    runPos.sl.H6_40 c M3 f3 = xqPieces c M3 f3 := by
  sl_kernel_rfl

/-- The scaled slabs of output block `b`, stored over the writes `L`: each quantised column block, read back, times its scale. -/
abbrev xePieces (c : Dev nD) (i : grid0.Coords) (M2 : Memref sig .tc .smem S16x6x40 .f32) (M3 : Memref sig .tc .vmem S1x128x5120 .bf16)
    (M6 : Memref sig .tc .vmem S128x5120 .bf16) (f2 : Bf (F := F) c M2) (f3 : Bf (F := F) c M3) (b : ℕ) (hb : b < 6)
    (L : List (View.Piece (Elt F) S128x5120 .bf16)) : List (View.Piece (Elt F) S128x5120 .bf16) :=
  colPieces (fun k hk => k0_pay2 (scaleAt c i M2 f2 b hb k hk) (M6.view.readCov (runPos.sl.H6_40 c M3 f3) (colRect hk).toLoadRect)) L 40 (Nat.le_refl _)

/-- The scaled slabs of the first `n` output blocks, one over the other. -/
def slabs (c : Dev nD) (i : grid0.Coords) (M2 : Memref sig .tc .smem S16x6x40 .f32) (M3 : Memref sig .tc .vmem S1x128x5120 .bf16)
    (M6 : Memref sig .tc .vmem S128x5120 .bf16) (f2 : Bf (F := F) c M2) (f3 : Bf (F := F) c M3) :
    (n : ℕ) → n ≤ 6 → List (View.Piece (Elt F) S128x5120 .bf16)
  | 0, _ => []
  | n + 1, h => xePieces c i M2 M3 M6 f2 f3 n h (slabs c i M2 M3 M6 f2 f3 n (Nat.le_of_succ_le h))

/-- Which of the 128 rows are counted by the group size `n`. -/
def validRows (n : BitVec 32) : IVec S128x1 1 :=
  cmpi .slt (iota .tc S128x1 32 [0] iota_S128x1_d0_w32) (broadcast S128x1 n)

/-- The first `n` output blocks: block `b` from the slabs of block `b` read back whole and rows `128 b …` of the weights. -/
def outPieces (c : Dev nD) (i : grid0.Coords) (M1 : Memref sig .tc .smem S16 .i32) (M2 : Memref sig .tc .smem S16x6x40 .f32) (M3 : Memref sig .tc .vmem S1x128x5120 .bf16)
    (M4 : Memref sig .tc .vmem S1x768x5120 .fp8e4m3) (M6 M7 : Memref sig .tc .vmem S128x5120 .bf16)
    (f1 : Bf (F := F) c M1) (f2 : Bf (F := F) c M2) (f3 : Bf (F := F) c M3) (f4 : Bf (F := F) c M4) :
    (n : ℕ) → n ≤ 6 → List (View.Piece (Elt F) S1x128x768 .bf16)
  | 0, _ => []
  | n + 1, h => ⟨Rect.unit (s := S1x128x768) ![0, 0, 128 * n] S1x128x128.size (inb_ocol h),
      k0_pay3 (validRows (word c i M1 f1))
        (M7.view.readCov (slabs c i M2 M3 M6 f2 f3 (n + 1) h) (Rect.unit (s := S128x5120) ![0, 0] S128x5120.size inb_S128x5120_S128x5120_0_0).toLoadRect)
        (View.readAt (Elt F) M4.view (Rect.unit (s := S1x768x5120) ![0, 128 * n, 0] S1x128x5120.size (inb_wrow h)).toLoadRect f4)⟩
      :: outPieces c i M1 M2 M3 M4 M6 M7 f1 f2 f3 f4 n (Nat.le_of_succ_le h)

set_option maxRecDepth 100000 in
/-- What the positive branch leaves in the output's buffer is the six output blocks. -/
theorem runPos_eq (c : Dev nD) (i : grid0.Coords)
    (M1 : Memref sig .tc .smem S16 .i32) (h1 : M1.IsWhole) (M2 : Memref sig .tc .smem S16x6x40 .f32) (h2 : M2.IsWhole)
    (M3 : Memref sig .tc .vmem S1x128x5120 .bf16) (h3 : M3.IsWhole) (M4 : Memref sig .tc .vmem S1x768x5120 .fp8e4m3) (h4 : M4.IsWhole)
    (M5 : Memref sig .tc .vmem S1x128x768 .bf16) (h5 : M5.IsWhole) (M6 : Memref sig .tc .vmem S128x5120 .bf16) (h6 : M6.IsWhole)
    (M7 : Memref sig .tc .vmem S128x5120 .bf16) (h7 : M7.IsWhole)
    (f1 : Bf (F := F) c M1) (f2 : Bf (F := F) c M2) (f3 : Bf (F := F) c M3) (f4 : Bf (F := F) c M4)
    (hc1 : ¬ k0_cond1 (word c i M1 f1) = 1#1) (hc2 : k0_cond2 (word c i M1 f1) = 1#1) :
    (runPos c i M1 h1 M2 h2 M3 h3 M4 h4 M5 h5 M6 h6 M7 h7 f1 f2 f3 f4 hc1 hc2).1
      = M5.view.writes (Elt F) M5.view.junk (outPieces c i M1 M2 M3 M4 M6 M7 f1 f2 f3 f4 6 (Nat.le_refl _)) := by
  sl_kernel_rfl

end Cert.KernelIdeal.Hand

end
-- ==== Proof.Quant.lean ====
/- The arithmetic of the quantise step over the extended reals: for a row whose absolute maximum is a real number below
   2^128, the clipped codes times the scale are the row itself, whichever of the two ways of finding the scale's exponent
   is taken (the kernel's count of powers, the reference's least exponent). -/
module

public import Idealize.ShloMosaic.Lib.Pointwise
public import Idealize.ShloMosaic.Lib.IndicatorCount

@[expose] public section

noncomputable section

namespace Cert.Hand

open Idealize.ShloMosaic

/-- The float32 constant 1/448 rounded up, as an extended real. -/
theorem recip448 : Ideal.ofBits .f32 0x3B124925#32 = ((9586981 * (2 : ℝ) ^ (-32 : ℤ) : ℝ) : EReal) := by
  simp [Ideal.ofBits, Ideal.ieee, -EReal.coe_mul]

/-- The largest finite bfloat16, as an extended real. -/
theorem bf16max : Ideal.ofBits .f32 0x7F7F0000#32 = ((16711680 * (2 : ℝ) ^ (104 : ℤ) : ℝ) : EReal) := by
  simp [Ideal.ofBits, Ideal.ieee, -EReal.coe_mul]

theorem ofBits_bot : Ideal.ofBits .f32 0xFF800000#32 = ⊥ := by simp [Ideal.ofBits, Ideal.ieee]
theorem ofBits_top : Ideal.ofBits .f32 0x7F800000#32 = ⊤ := by simp [Ideal.ofBits, Ideal.ieee]
theorem ofBits_448 : Ideal.ofBits .f32 0x43E00000#32 = ((448 : ℝ) : EReal) := by
  simp [Ideal.ofBits, Ideal.ieee, -EReal.coe_mul]; norm_num
theorem ofBits_neg448 : Ideal.ofBits .f32 0xC3E00000#32 = ((-448 : ℝ) : EReal) := by
  simp [Ideal.ofBits, Ideal.ieee, -EReal.coe_mul]; norm_num
theorem ofBits_149 : Ideal.ofBits .f32 0x43150000#32 = ((149 : ℝ) : EReal) := by
  simp [Ideal.ofBits, Ideal.ieee, -EReal.coe_mul]; norm_num
theorem ofBits_128 : Ideal.ofBits .f32 0x43000000#32 = ((128 : ℝ) : EReal) := by
  simp [Ideal.ofBits, Ideal.ieee, -EReal.coe_mul]; norm_num

/-- The largest finite bfloat16, as a real number. -/
abbrev xmax : ℝ := 16711680 * (2 : ℝ) ^ (104 : ℤ)

/-- Clipping does nothing to `x · 2^-t` when `|x| ≤ 448 · 2^t`, and the scale `2^t` gives `x` back. -/
theorem clip_scale (x t : ℝ) (h : |x| ≤ 448 * (2 : ℝ) ^ t) :
    min ((448 : ℝ) : EReal) (max ((-448 : ℝ) : EReal) ((x : EReal) * (((2 : ℝ) ^ (-t) : ℝ) : EReal))) * (((2 : ℝ) ^ t : ℝ) : EReal) = (x : EReal) := by
  have hp : (0 : ℝ) < 2 ^ t := Real.rpow_pos_of_pos (by norm_num) t
  have hi : (2 : ℝ) ^ (-t) = ((2 : ℝ) ^ t)⁻¹ := Real.rpow_neg (by norm_num) t
  have hq : |x * ((2 : ℝ) ^ t)⁻¹| ≤ 448 := by
    rw [abs_mul, abs_of_pos (inv_pos.2 hp)]
    calc |x| * ((2 : ℝ) ^ t)⁻¹ ≤ 448 * (2 : ℝ) ^ t * ((2 : ℝ) ^ t)⁻¹ := mul_le_mul_of_nonneg_right h (inv_pos.2 hp).le
      _ = 448 := by field_simp
  rw [hi, ← EReal.coe_mul]
  rw [max_eq_right (EReal.coe_le_coe_iff.2 (abs_le.1 hq).1), min_eq_right (EReal.coe_le_coe_iff.2 (abs_le.1 hq).2), ← EReal.coe_mul]
  congr 1
  field_simp

/-- The absolute maximum of a row of bounded entries is a real number bounding every entry, and every entry is real. -/
theorem rowMax {n : ℕ} (hn : 0 < n) (f : Fin n → EReal) (M : ℝ) (hf : ∀ k, max (f k) (-(f k)) ≤ (M : EReal)) :
    ∃ A : ℝ, (Finset.univ : Finset (Fin n)).fold max ⊥ (fun k => max (f k) (-(f k))) = (A : EReal) ∧ 0 ≤ A ∧ A ≤ M
      ∧ ∀ k, ∃ y : ℝ, f k = (y : EReal) ∧ |y| ≤ A := by
  have hre : ∀ k, ∃ y : ℝ, f k = (y : EReal) := fun k => by
    have h := hf k
    induction hk : f k using EReal.rec with
    | bot => rw [hk] at h; simp at h
    | top => rw [hk] at h; simp at h
    | coe y => exact ⟨y, rfl⟩
  choose y hy using hre
  have habs : ∀ k, max (f k) (-(f k)) = ((|y k| : ℝ) : EReal) := fun k => by
    rw [hy k, ← EReal.coe_neg]; exact (EReal.coe_strictMono.monotone.map_max (a := y k) (b := -(y k))).symm
  set R := (Finset.univ : Finset (Fin n)).fold max ⊥ (fun k => max (f k) (-(f k))) with hR
  have hle : R ≤ (M : EReal) := (Finset.fold_max_le _).2 ⟨bot_le, fun k _ => hf k⟩
  have hge : ∀ k, ((|y k| : ℝ) : EReal) ≤ R := fun k => (Finset.le_fold_max _).2 (Or.inr ⟨k, Finset.mem_univ k, (habs k).symm.le⟩)
  have h0 : (0 : EReal) ≤ R := le_trans (by exact_mod_cast abs_nonneg (y ⟨0, hn⟩)) (hge ⟨0, hn⟩)
  induction hRc : R using EReal.rec with
  | bot => rw [hRc] at h0; simp at h0
  | top => rw [hRc] at hle; simp at hle
  | coe A =>
    rw [hRc] at hle hge h0
    exact ⟨A, rfl, by exact_mod_cast h0, by exact_mod_cast hle, fun k => ⟨y k, hy k, by exact_mod_cast hge k⟩⟩

/-- An entry is at most 448 scales when the row's maximum times the rounded-up 1/448 is below the scale. -/
theorem le_448 {A t y : ℝ} (hA : 0 ≤ A) (h : A * (9586981 * (2 : ℝ) ^ (-32 : ℤ)) < (2 : ℝ) ^ t) (hy : |y| ≤ A) : |y| ≤ 448 * (2 : ℝ) ^ t := by
  have e : (2 : ℝ) ^ (-32 : ℤ) = 1 / 4294967296 := by norm_num
  rw [e] at h
  nlinarith

/-- The reference's exponent: the least `j - 149`, `j < 278`, with `v < 2^(j - 149)`, 128 where there is none. -/
theorem leastExp (v : ℝ) (hv : v < (2 : ℝ) ^ (128 : ℝ)) :
    ∃ t : ℝ, (Finset.univ : Finset (Fin 278)).fold min ⊤
        (fun j => if (v : EReal) < (((2 : ℝ) ^ ((j.val : ℝ) - 149) : ℝ) : EReal) then (((j.val : ℝ) - 149 : ℝ) : EReal) else ((128 : ℝ) : EReal)) = (t : EReal)
      ∧ v < (2 : ℝ) ^ t := by
  set f : Fin 278 → EReal := fun j => if (v : EReal) < (((2 : ℝ) ^ ((j.val : ℝ) - 149) : ℝ) : EReal) then (((j.val : ℝ) - 149 : ℝ) : EReal) else ((128 : ℝ) : EReal) with hf
  have hfk : ∀ j, ∃ t : ℝ, f j = (t : EReal) ∧ v < (2 : ℝ) ^ t := fun j => by
    by_cases h : (v : EReal) < (((2 : ℝ) ^ ((j.val : ℝ) - 149) : ℝ) : EReal)
    · exact ⟨(j.val : ℝ) - 149, by simp only [hf, if_pos h], EReal.coe_lt_coe_iff.1 h⟩
    · exact ⟨128, by simp only [hf, if_neg h], hv⟩
  have hmem : ∀ S : Finset (Fin 278), S.fold min ⊤ f = ⊤ ∨ ∃ j, S.fold min ⊤ f = f j := fun S => by
    induction S using Finset.induction_on with
    | empty => left; rfl
    | insert a S ha ih =>
      right
      rw [Finset.fold_insert ha]
      rcases ih with h | ⟨j, h⟩
      · exact ⟨a, by rw [h, min_top_right]⟩
      · rcases min_choice (f a) (S.fold min ⊤ f) with e | e
        · exact ⟨a, e⟩
        · exact ⟨j, e.trans h⟩
  rcases hmem Finset.univ with h | ⟨j, h⟩
  · exfalso
    obtain ⟨t, e, _⟩ := hfk 0
    have hle : Finset.univ.fold min ⊤ f ≤ f 0 := (Finset.fold_min_le _).2 (Or.inr ⟨0, Finset.mem_univ _, le_rfl⟩)
    rw [h, e] at hle
    simp at hle
  · rw [h]; exact hfk j

/-- The float32 whose bit pattern is `j` in the exponent field. -/
def pw (j : ℕ) : EReal := Ideal.ofBits .f32 (BitVec.ofNat 32 j <<< 23)

theorem pw_fields : ∀ j : Fin 256, ((BitVec.ofNat 32 j.val <<< 23 : BitVec 32).extractLsb' 31 1 == 1#1) = false
    ∧ ((BitVec.ofNat 32 j.val <<< 23 : BitVec 32).extractLsb' 23 8).toNat = j.val
    ∧ ((BitVec.ofNat 32 j.val <<< 23 : BitVec 32).extractLsb' 0 23).toNat = 0 := by decide +kernel

/-- For a normal exponent it is the power of two; -/
theorem pw_eq {j : ℕ} (h1 : 1 ≤ j) (h2 : j ≤ 254) : pw j = (((2 : ℝ) ^ ((j : ℝ) - 127) : ℝ) : EReal) := by
  obtain ⟨a, b, c⟩ := pw_fields ⟨j, by omega⟩
  have e : (2 : ℝ) ^ ((j : ℝ) - 127) = (2 : ℝ) ^ ((j : ℤ) - 127) := by
    rw [← Real.rpow_intCast]; push_cast; rfl
  have e2 : (2 : ℝ) ^ ((j : ℤ) - 127) = 2 ^ 23 * (2 : ℝ) ^ ((j : ℤ) - 127 - 23) := by
    have h23 : (j : ℤ) - 127 = 23 + ((j : ℤ) - 127 - 23) := by ring
    conv_lhs => rw [h23, zpow_add₀ (two_ne_zero : (2 : ℝ) ≠ 0)]
    rfl
  rw [e, e2]
  simp only [pw, Ideal.ofBits, Ideal.ieee]
  simp only [Nat.reduceAdd] at *
  rw [b, c, a, if_neg (by omega), if_neg (by omega)]
  norm_num
/-- zero for exponent field 0, and +∞ for 255. -/
theorem pw_zero : pw 0 = 0 := by simp [pw, Ideal.ofBits, Ideal.ieee]
theorem pw_top : pw 255 = ⊤ := by simp [pw, Ideal.ofBits, Ideal.ieee]

/-- The number of the 256 powers not above `v`. -/
def cnt (v : EReal) : ℕ := ((Finset.univ : Finset (Fin 256)).filter fun j => ¬ v < pw j.val).card

/-- For `0 ≤ v < 2^120` the count is between 1 and 247, and `v` is below the power at the count. -/
theorem cnt_spec (v : ℝ) (h0 : 0 ≤ v) (hv : v < (2 : ℝ) ^ (120 : ℝ)) :
    1 ≤ cnt (v : EReal) ∧ cnt (v : EReal) ≤ 247 ∧ v < (2 : ℝ) ^ ((cnt (v : EReal) : ℝ) - 127) := by
  classical
  have mono : ∀ i j : ℕ, i ≤ j → j ≤ 254 → (v : EReal) < pw i → (v : EReal) < pw j := fun i j hij hj h => by
    rcases Nat.eq_zero_or_pos i with rfl | hi
    · rw [pw_zero] at h; exact absurd (by exact_mod_cast h : v < 0) (not_lt.2 h0)
    · rw [pw_eq hi (by omega)] at h
      rw [pw_eq (by omega) hj]
      refine h.trans_le (EReal.coe_le_coe_iff.2 (Real.rpow_le_rpow_of_exponent_le (by norm_num) ?_))
      have : (i : ℝ) ≤ j := by exact_mod_cast hij
      linarith
  have h247 : (v : EReal) < pw 247 := by
    rw [pw_eq (by norm_num) (by norm_num)]
    refine EReal.coe_lt_coe_iff.2 (hv.trans_le (le_of_eq ?_))
    norm_num
  have hex : ∃ n, (v : EReal) < pw n := ⟨247, h247⟩
  set n := Nat.find hex with hn
  have hlt : (v : EReal) < pw n := Nat.find_spec hex
  have hn247 : n ≤ 247 := Nat.find_min' hex h247
  have hn1 : 1 ≤ n := by
    rcases Nat.eq_zero_or_pos n with e | e
    · rw [e, pw_zero] at hlt; exact absurd (by exact_mod_cast hlt : v < 0) (not_lt.2 h0)
    · exact e
  have hset : ((Finset.univ : Finset (Fin 256)).filter fun j => ¬ (v : EReal) < pw j.val) = Finset.univ.filter fun j : Fin 256 => j.val < n := by
    ext j
    simp only [Finset.mem_filter, Finset.mem_univ, true_and]
    constructor
    · intro h
      by_contra hc
      rcases Nat.lt_or_ge j.val 255 with hj | hj
      · exact h (mono n j.val (by omega) (by omega) hlt)
      · have : j.val = 255 := by have := j.isLt; omega
        rw [this, pw_top] at h; exact h (EReal.coe_lt_top v)
    · exact fun h => Nat.find_min hex h
  have hcard : cnt (v : EReal) = n := by
    unfold cnt; rw [hset]
    have : (Finset.univ.filter fun j : Fin 256 => j.val < n) = Finset.Iio (⟨n, by omega⟩ : Fin 256) := by
      ext j; simp [Fin.lt_def]
    rw [this, Fin.card_Iio]
  rw [hcard]
  refine ⟨hn1, hn247, ?_⟩
  rw [pw_eq hn1 (by omega)] at hlt
  exact_mod_cast hlt

/-- The exponent word the kernel takes from the count word `n`: the count less one, 0 where that is 0, less 126 elsewhere. -/
def exWord (n : BitVec 32) : BitVec 32 :=
  Scalar.select (IntOp.cmpi .eq (IntOp.subi n 1#32) 0#32) 0#32 (IntOp.subi (IntOp.subi n 1#32) 126#32)

/-- The exponent fields of the scale and of its inverse, from the count. -/
theorem exWord_fields : ∀ n : Fin 248, 1 ≤ n.val →
    IntOp.shli .vector (IntOp.addi 127#32 (exWord (BitVec.ofNat 32 n.val))) 23#32 = BitVec.ofNat 32 (if n.val = 1 then 127 else n.val) <<< 23
    ∧ IntOp.shli .vector (IntOp.subi 127#32 (exWord (BitVec.ofNat 32 n.val))) 23#32 = BitVec.ofNat 32 (254 - if n.val = 1 then 127 else n.val) <<< 23 := by
  decide +kernel

/-- The kernel's scale and inverse from the row maximum `A`: `2^t` and `2^-t` for a `t` with `A / 448 < 2^t`. -/
theorem kernelExp (A : ℝ) (h0 : 0 ≤ A) (hA : A ≤ 16711680 * (2 : ℝ) ^ (104 : ℤ)) (n : BitVec 32)
    (hn : n = BitVec.ofNat 32 (cnt ((A : EReal) * Ideal.ofBits .f32 0x3B124925#32))) :
    ∃ t : ℝ, A * (9586981 * (2 : ℝ) ^ (-32 : ℤ)) < (2 : ℝ) ^ t
      ∧ Ideal.ofBits .f32 (IntOp.shli .vector (IntOp.addi 127#32 (exWord n)) 23#32) = (((2 : ℝ) ^ t : ℝ) : EReal)
      ∧ Ideal.ofBits .f32 (IntOp.shli .vector (IntOp.subi 127#32 (exWord n)) 23#32) = (((2 : ℝ) ^ (-t) : ℝ) : EReal) := by
  rw [recip448, ← EReal.coe_mul] at hn
  set v : ℝ := A * (9586981 * (2 : ℝ) ^ (-32 : ℤ)) with hv
  have hv0 : 0 ≤ v := by positivity
  have hv1 : v < (2 : ℝ) ^ (120 : ℝ) := by
    have e : (2 : ℝ) ^ (120 : ℝ) = 2 ^ (120 : ℕ) := by rw [← Real.rpow_natCast]; norm_num
    have e1 : (2 : ℝ) ^ (104 : ℤ) = 2 ^ (104 : ℕ) := by norm_cast
    have e2 : (2 : ℝ) ^ (-32 : ℤ) = 1 / 4294967296 := by norm_num
    rw [e, hv, e2]; rw [e1] at hA
    norm_num at hA ⊢
    linarith
  obtain ⟨c1, c2, c3⟩ := cnt_spec v hv0 hv1
  set m := cnt (v : EReal) with hm
  obtain ⟨w1, w2⟩ := exWord_fields ⟨m, by omega⟩ c1
  rw [hn, w1, w2]
  show ∃ t : ℝ, _ ∧ pw _ = _ ∧ pw _ = _
  by_cases h1 : m = 1
  · refine ⟨0, ?_, ?_, ?_⟩
    · rw [h1] at c3
      refine c3.trans_le (Real.rpow_le_rpow_of_exponent_le (by norm_num) (by norm_num))
    · simp only [h1, if_true]; rw [pw_eq (by norm_num) (by norm_num)]; norm_num
    · simp only [h1, if_true]; rw [pw_eq (by norm_num) (by norm_num)]; norm_num
  · refine ⟨(m : ℝ) - 127, c3, ?_, ?_⟩
    · simp only [h1, if_false]; rw [pw_eq c1 (by omega)]
    · simp only [h1, if_false]; rw [pw_eq (by omega) (by omega), Nat.cast_sub (by omega)]
      congr 2; push_cast; ring

/-- The fold of words, one for every power not above `v`, is the count as a word. -/
theorem fold_count (v : EReal) :
    (Finset.univ : Finset (Fin 256)).fold IntOp.addi 0#32 (fun j => Scalar.select (Ideal.cmp .olt v (pw j.val)) 0#32 1#32) = BitVec.ofNat 32 (cnt v) := by
  classical
  have h := IndicatorCount.fold_addi_setWidth_eq_card (w := 32) (fun j : Fin 256 => if v < pw j.val then 0#1 else 1#1) Finset.univ
  have e : (fun j : Fin 256 => Scalar.select (Ideal.cmp .olt v (pw j.val)) 0#32 1#32) = fun j : Fin 256 => (if v < pw j.val then 0#1 else 1#1 : BitVec 1).setWidth 32 := by
    funext j
    by_cases hj : v < pw j.val
    · simp [Ideal.cmp, hj, Scalar.select]
    · simp [Ideal.cmp, hj, Scalar.select]
  rw [e, h]
  congr 1
  unfold cnt
  congr 1
  ext j
  by_cases hj : v < pw j.val <;> simp [hj]

end Cert.Hand

end
-- ==== Proof.IdealPayload.lean ====
/- The kernel's payloads read at an index over the extended reals. -/
module

public import proofs.«01_k».proof.Proof.IdealPieces
public import proofs.«01_k».proof.Proof.Quant
public import Idealize.ShloMosaic.Lib.Pointwise

@[expose] public section

noncomputable section

namespace Cert.KernelIdeal.Hand

open Cert.KernelIdeal Cert.KernelIdeal.Gen
open Idealize.ShloMosaic
open Cert.Hand

/-- The kernel's exponent word at row `r`: `exWord` of the count of the powers not above the row's maximum over 448. -/
theorem pay5_apply (xb : Vec Ideal S1x128x128 .bf16) (r : Fin 128) :
    k0_pay5 (F := Ideal) xb (ix2 r 0) = exWord (BitVec.ofNat 32 (cnt
      ((Finset.univ : Finset (Fin 128)).fold max ⊥ (fun l => max (xb (ix3 0 r l)) (-(xb (ix3 0 r l)))) * Ideal.ofBits .f32 0x3B124925#32))) := by
  rw [← fold_count]
  pointwise [k0_pay5, k0_pay4]
  rw [ofBits_bot]
  rfl

/-- A block of bounded entries comes out of the kernel's quantise step as it went in. -/
theorem quantBlk_apply (xb : Vec Ideal S1x128x128 .bf16) (hx : ∀ r l, max (xb (ix3 0 r l)) (-(xb (ix3 0 r l))) ≤ (xmax : EReal)) (r l : Fin 128) :
    quantBlk (F := Ideal) xb (ix2 r l) = xb (ix3 0 r l) := by
  obtain ⟨A, hA, h0, hM, hk⟩ := rowMax (by norm_num) (fun l => xb (ix3 0 r l)) xmax (fun l => hx r l)
  obtain ⟨t, ht, hs, hi⟩ := kernelExp A h0 hM _ rfl
  obtain ⟨y, hy, hyA⟩ := hk l
  pointwise [k0_pay8, k0_pay7, k0_pay6, k0_pay4]
  rw [pay5_apply, hA, hs, hi, ofBits_448, ofBits_neg448, hy]
  exact clip_scale y t (le_448 h0 ht hyA)

/-- A slab is the quantised block times the scale. -/
theorem pay2_apply (s : EReal) (v : Vec Ideal S128x128 .bf16) (r l : Fin 128) :
    k0_pay2 (F := Ideal) s v (ix2 r l) = v (ix2 r l) * s := by
  pointwise [k0_pay2]

/-- An output block is the contraction of the slabs with the weights in the counted rows, zero in the others. -/
theorem pay3_apply (n : BitVec 32) (xe : Vec Ideal S128x5120 .bf16) (w : Vec Ideal S1x128x5120 .fp8e4m3) (r o : Fin 128) :
    k0_pay3 (F := Ideal) (validRows n) xe w (ix3 0 r o)
      = Scalar.select (IntOp.cmpi .slt (BitVec.ofNat 32 r.val) n) (∑ d : Fin 5120, xe (ix2 r d) * w (ix3 0 o d)) 0 := by
  pointwise [k0_pay3, validRows]

end Cert.KernelIdeal.Hand

end
-- ==== Proof.IdealCanon.lean ====
/- What the body's positive branch leaves in the output's buffer, read at an index over the extended reals. -/
module

public import proofs.«01_k».proof.Proof.IdealPayload

@[expose] public section

noncomputable section

namespace Cert.KernelIdeal.Hand

open Cert.KernelIdeal Cert.KernelIdeal.Gen
open Idealize.ShloMosaic Idealize.ShloMosaic.TcCoe
open Cert.Hand

variable {F : FTy → Type} [FloatOps F]

theorem colRect_idx {k : ℕ} (hk : k < 40) (r l : Fin 128) :
    (colRect hk).toLoadRect.idx (ix2 r l) = (ix2 r ⟨128 * k + l.val, by omega⟩ : S128x5120.Idx) :=
  funext fun a => Fin.ext (by
    match a with
    | ⟨0, _⟩ => show 0 + 1 * r.val = r.val; omega
    | ⟨1, _⟩ => show 128 * k + 1 * l.val = 128 * k + l.val; omega)

theorem colRect_not_mem {k : ℕ} (hk : k < 40) (r : Fin 128) (d : Fin 5120) (h : d.val < 128 * k) :
    (ix2 r d : S128x5120.Idx) ∉ (colRect hk).set := fun hm => by
  obtain ⟨j, hj, he⟩ := (LoadRect.mem_set _).1 hm (1 : Fin 2)
  change d.val = 128 * k + 1 * j at he
  omega

/-- Column blocks stored in order leave, at column `128 k + l`, block `k` at `l`. -/
theorem canon_colPieces (P : (k : ℕ) → k < 40 → Vec F S128x128 .bf16) (L : List (View.Piece (Elt F) S128x5120 .bf16)) :
    ∀ (n : ℕ) (h : n ≤ 40) (k : ℕ) (hk : k < n) (r l : Fin 128),
      View.canon (colPieces P L n h) (ix2 r ⟨128 * k + l.val, by omega⟩) = P k (by omega) (ix2 r l)
  | 0, _, k, hk, _, _ => absurd hk (Nat.not_lt_zero k)
  | n + 1, h, k, hk, r, l => by
    rcases Nat.lt_or_ge k n with hkn | hkn
    · have hlt : 128 * k + l.val < 128 * n := by omega
      refine (View.canon_cons_of_not_mem ⟨colRect (k := n) h, P n h⟩ (colPieces P L n (Nat.le_of_succ_le h)) (colRect_not_mem h r ⟨128 * k + l.val, by omega⟩ hlt)).trans ?_
      exact canon_colPieces P L n (Nat.le_of_succ_le h) k hkn r l
    · obtain rfl : k = n := by omega
      exact (congrArg (View.canon (colPieces P L (k + 1) h)) (colRect_idx (k := k) h r l).symm).trans
        (View.canon_cons_emb (colRect (k := k) h) (P k h) (colPieces P L k (Nat.le_of_succ_le h)) (ix2 r l))

variable (c : Dev nD) (i : grid0.Coords) (M1 : Memref sig .tc .smem S16 .i32) (M2 : Memref sig .tc .smem S16x6x40 .f32)
  (M3 : Memref sig .tc .vmem S1x128x5120 .bf16) (M4 : Memref sig .tc .vmem S1x768x5120 .fp8e4m3) (M6 M7 : Memref sig .tc .vmem S128x5120 .bf16)
  (f1 : Bf (F := Ideal) c M1) (f2 : Bf (F := Ideal) c M2) (f3 : Bf (F := Ideal) c M3) (f4 : Bf (F := Ideal) c M4)

/-- The block of activations, as the body's buffer reads. -/
abbrev rdX : S1x128x5120.Idx → EReal := M3.view.read (Elt Ideal) f3
/-- The scales. -/
abbrev rdS : S16x6x40.Idx → EReal := M2.view.read (Elt Ideal) f2
/-- The weights. -/
abbrev rdW : S1x768x5120.Idx → EReal := M4.view.read (Elt Ideal) f4

theorem xblkAt_apply (k : ℕ) (hk : k < 40) (r l : Fin 128) :
    xblkAt (F := Ideal) c M3 f3 k hk (ix3 0 r l) = rdX c M3 f3 (ix3 0 r ⟨128 * k + l.val, by omega⟩) := by
  show M3.view.read (Elt Ideal) f3 _ = M3.view.read (Elt Ideal) f3 _
  refine congrArg (M3.view.read (Elt Ideal) f3) (funext fun a => Fin.ext ?_)
  match a with
  | ⟨0, _⟩ => rfl
  | ⟨1, _⟩ => show 0 + 1 * r.val = r.val; omega
  | ⟨2, _⟩ => show 128 * k + 1 * l.val = 128 * k + l.val; omega

theorem scaleAt_apply (b : ℕ) (hb : b < 6) (k : ℕ) (hk : k < 40) :
    scaleAt (F := Ideal) c i M2 f2 b hb k hk = rdS c M2 f2 (ix3 ⟨(i 0).val, (i 0).isLt⟩ ⟨b, hb⟩ ⟨k, hk⟩) := by
  show M2.view.read (Elt Ideal) f2 _ = M2.view.read (Elt Ideal) f2 _
  refine congrArg (M2.view.read (Elt Ideal) f2) (funext fun a => Fin.ext ?_)
  match a with
  | ⟨0, _⟩ =>
    have e : ∀ n : Fin 16, (Scalar.indexCast (BitVec.ofNat 32 n.val) : Index).toNat = n.val := by decide +kernel
    show (Scalar.indexCast (BitVec.ofNat 32 (i 0).val) : Index).toNat + 1 * 0 = (i 0).val
    exact e ⟨(i 0).val, (i 0).isLt⟩
  | ⟨1, _⟩ => rfl
  | ⟨2, _⟩ => rfl

theorem wrow_apply (b : ℕ) (hb : b < 6) (o : Fin 128) (d : Fin 5120) :
    View.readAt (Elt Ideal) M4.view (Rect.unit (s := S1x768x5120) ![0, 128 * b, 0] S1x128x5120.size (inb_wrow hb)).toLoadRect f4 (ix3 0 o d)
      = rdW c M4 f4 (ix3 0 ⟨128 * b + o.val, by omega⟩ d) := by
  show M4.view.read (Elt Ideal) f4 _ = M4.view.read (Elt Ideal) f4 _
  refine congrArg (M4.view.read (Elt Ideal) f4) (funext fun a => Fin.ext ?_)
  match a with
  | ⟨0, _⟩ => rfl
  | ⟨1, _⟩ => show 128 * b + 1 * o.val = 128 * b + o.val; omega
  | ⟨2, _⟩ => show 0 + 1 * d.val = d.val; omega

/-- The bound on the activations under which the quantise step returns them. -/
def XBd : Prop := ∀ r d, max (rdX c M3 f3 (ix3 0 r d)) (-(rdX c M3 f3 (ix3 0 r d))) ≤ (xmax : EReal)

/-- The quantised buffer reads the activations. -/
theorem canon_H6 (hx : XBd c M3 f3) (k : ℕ) (hk : k < 40) (r l : Fin 128) :
    View.canon (runPos.sl.H6_40 (F := Ideal) c M3 f3) (ix2 r ⟨128 * k + l.val, by omega⟩) = rdX c M3 f3 (ix3 0 r ⟨128 * k + l.val, by omega⟩) := by
  rw [H6_eq, canon_colPieces _ _ 40 _ k hk r l, quantBlk_apply _ (fun r l => by rw [xblkAt_apply]; exact hx _ _), xblkAt_apply]

/-- The slab buffer, after block `b`'s slabs, reads the activations times block `b`'s scales. -/
theorem canon_slabs (hx : XBd c M3 f3) (b : ℕ) (hb : b < 6) (r : Fin 128) (d : Fin 5120) :
    View.canon (slabs (F := Ideal) c i M2 M3 M6 f2 f3 (b + 1) hb) (ix2 r d)
      = rdX c M3 f3 (ix3 0 r d) * rdS c M2 f2 (ix3 ⟨(i 0).val, (i 0).isLt⟩ ⟨b, hb⟩ ⟨d.val / 128, by omega⟩) := by
  have hk : d.val / 128 < 40 := by omega
  have hd : (⟨128 * (d.val / 128) + d.val % 128, by omega⟩ : Fin 5120) = d := Fin.ext (by show 128 * (d.val / 128) + d.val % 128 = d.val; omega)
  have h := canon_colPieces (F := Ideal) (fun k hk => k0_pay2 (scaleAt c i M2 f2 b hb k hk) (M6.view.readCov (runPos.sl.H6_40 c M3 f3) (colRect hk).toLoadRect))
    (slabs (F := Ideal) c i M2 M3 M6 f2 f3 b (Nat.le_of_succ_le hb)) 40 (Nat.le_refl _) (d.val / 128) hk r ⟨d.val % 128, by omega⟩
  rw [hd] at h
  refine h.trans ?_
  rw [pay2_apply, View.readCov_eq_canon', scaleAt_apply]
  show View.canon _ ((colRect hk).toLoadRect.idx (ix2 r _)) * _ = _
  rw [colRect_idx, canon_H6 c M3 f3 hx _ hk, hd]

theorem ocol_idx {b : ℕ} (hb : b < 6) (r o : Fin 128) :
    (Rect.unit (s := S1x128x768) ![0, 0, 128 * b] S1x128x128.size (inb_ocol hb)).toLoadRect.idx (ix3 0 r o) = (ix3 0 r ⟨128 * b + o.val, by omega⟩ : S1x128x768.Idx) :=
  funext fun a => Fin.ext (by
    match a with
    | ⟨0, _⟩ => rfl
    | ⟨1, _⟩ => show 0 + 1 * r.val = r.val; omega
    | ⟨2, _⟩ => show 128 * b + 1 * o.val = 128 * b + o.val; omega)

theorem ocol_not_mem {b : ℕ} (hb : b < 6) (r : Fin 128) (o : Fin 768) (h : o.val < 128 * b) :
    (ix3 0 r o : S1x128x768.Idx) ∉ (Rect.unit (s := S1x128x768) ![0, 0, 128 * b] S1x128x128.size (inb_ocol hb)).set := fun hm => by
  obtain ⟨j, hj, he⟩ := (LoadRect.mem_set _).1 hm (2 : Fin 3)
  change o.val = 128 * b + 1 * j at he
  omega

theorem whole_idx (r : Fin 128) (d : Fin 5120) :
    (Rect.unit (s := S128x5120) ![0, 0] S128x5120.size inb_S128x5120_S128x5120_0_0).toLoadRect.idx (ix2 r d) = (ix2 r d : S128x5120.Idx) :=
  funext fun a => Fin.ext (by
    match a with
    | ⟨0, _⟩ => show 0 + 1 * r.val = r.val; omega
    | ⟨1, _⟩ => show 0 + 1 * d.val = d.val; omega)

/-- One output block at an index. -/
theorem oblock_apply (hx : XBd c M3 f3) (n : BitVec 32) (b : ℕ) (hb : b < 6) (r o : Fin 128) :
    k0_pay3 (F := Ideal) (validRows n)
        (M7.view.readCov (slabs c i M2 M3 M6 f2 f3 (b + 1) hb) (Rect.unit (s := S128x5120) ![0, 0] S128x5120.size inb_S128x5120_S128x5120_0_0).toLoadRect)
        (View.readAt (Elt Ideal) M4.view (Rect.unit (s := S1x768x5120) ![0, 128 * b, 0] S1x128x5120.size (inb_wrow hb)).toLoadRect f4) (ix3 0 r o)
      = Scalar.select (IntOp.cmpi .slt (BitVec.ofNat 32 r.val) n)
          (∑ d : Fin 5120, rdX c M3 f3 (ix3 0 r d) * rdS c M2 f2 (ix3 ⟨(i 0).val, (i 0).isLt⟩ ⟨b, hb⟩ ⟨d.val / 128, by omega⟩)
            * rdW c M4 f4 (ix3 0 ⟨128 * b + o.val, by omega⟩ d)) 0 := by
  rw [pay3_apply]
  refine congrArg (fun v : EReal => Scalar.select (IntOp.cmpi .slt (BitVec.ofNat 32 r.val) n) v 0) (Finset.sum_congr rfl fun d _ => ?_)
  rw [wrow_apply c M4 f4 b hb, View.readCov_eq_canon']
  show View.canon _ ((Rect.unit (s := S128x5120) ![0, 0] S128x5120.size inb_S128x5120_S128x5120_0_0).toLoadRect.idx (ix2 r d)) * _ = _
  rw [whole_idx, canon_slabs c i M2 M3 M6 f2 f3 hx b hb]

/-- The output blocks at an index. -/
theorem canon_outPieces (hx : XBd c M3 f3) : ∀ (n : ℕ) (h : n ≤ 6) (b : ℕ) (hb : b < n) (r o : Fin 128),
    View.canon (outPieces (F := Ideal) c i M1 M2 M3 M4 M6 M7 f1 f2 f3 f4 n h) (ix3 0 r ⟨128 * b + o.val, by omega⟩)
      = Scalar.select (IntOp.cmpi .slt (BitVec.ofNat 32 r.val) (word c i M1 f1))
          (∑ d : Fin 5120, rdX c M3 f3 (ix3 0 r d) * rdS c M2 f2 (ix3 ⟨(i 0).val, (i 0).isLt⟩ ⟨b, by omega⟩ ⟨d.val / 128, by omega⟩)
            * rdW c M4 f4 (ix3 0 ⟨128 * b + o.val, by omega⟩ d)) 0
  | 0, _, b, hb, _, _ => absurd hb (Nat.not_lt_zero b)
  | n + 1, h, b, hb, r, o => by
    rcases Nat.lt_or_ge b n with hbn | hbn
    · have hlt : 128 * b + o.val < 128 * n := by omega
      refine (View.canon_cons_of_not_mem ⟨Rect.unit (s := S1x128x768) ![0, 0, 128 * n] S1x128x128.size (inb_ocol h), _⟩
        (outPieces (F := Ideal) c i M1 M2 M3 M4 M6 M7 f1 f2 f3 f4 n (Nat.le_of_succ_le h)) (ocol_not_mem h r ⟨128 * b + o.val, by omega⟩ hlt)).trans ?_
      exact canon_outPieces hx n (Nat.le_of_succ_le h) b hbn r o
    · obtain rfl : b = n := by omega
      exact ((congrArg (View.canon (outPieces (F := Ideal) c i M1 M2 M3 M4 M6 M7 f1 f2 f3 f4 (b + 1) h)) (ocol_idx (b := b) h r o).symm).trans
        (View.canon_cons_emb (Rect.unit (s := S1x128x768) ![0, 0, 128 * b] S1x128x128.size (inb_ocol h)) _
          (outPieces (F := Ideal) c i M1 M2 M3 M4 M6 M7 f1 f2 f3 f4 b (Nat.le_of_succ_le h)) (ix3 0 r o))).trans
        (oblock_apply c i M2 M3 M4 M6 M7 f2 f3 f4 hx (word c i M1 f1) b h r o)

/-- THE POSITIVE BRANCH'S BLOCK at an index. -/
theorem canon_out (hx : XBd c M3 f3) (r : Fin 128) (o : Fin 768) :
    View.canon (outPieces (F := Ideal) c i M1 M2 M3 M4 M6 M7 f1 f2 f3 f4 6 (Nat.le_refl _)) (ix3 0 r o)
      = Scalar.select (IntOp.cmpi .slt (BitVec.ofNat 32 r.val) (word c i M1 f1))
          (∑ d : Fin 5120, rdX c M3 f3 (ix3 0 r d) * rdS c M2 f2 (ix3 ⟨(i 0).val, (i 0).isLt⟩ ⟨o.val / 128, by omega⟩ ⟨d.val / 128, by omega⟩)
            * rdW c M4 f4 (ix3 0 o d)) 0 := by
  have ho : (⟨128 * (o.val / 128) + o.val % 128, by omega⟩ : Fin 768) = o := Fin.ext (by show 128 * (o.val / 128) + o.val % 128 = o.val; omega)
  have h := canon_outPieces c i M1 M2 M3 M4 M6 M7 f1 f2 f3 f4 hx 6 (Nat.le_refl _) (o.val / 128) (by omega) r ⟨o.val % 128, by omega⟩
  simp only [] at h
  rw [ho] at h
  exact h

end Cert.KernelIdeal.Hand

end
-- ==== Proof.IdealValue.lean ====
/- The kernel's run at non-negative group sizes: the output array at its closed form over the extended reals. -/
module

public import proofs.«01_k».proof.Proof.IdealFrame
public import proofs.«01_k».proof.Proof.IdealCanon

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Hand

section
variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output's block is written back at every point. -/
theorem flush3 : ∀ t : Fin (cfgM m).N, ((cfgM m).win 3).flush t = true :=
  (fun t => (Pipeline.Window.flushOf_reads cc0_transform_3 reads0_3 hreads0_3 0 (by decide) (by decide) (Pipeline.Window.sep_of_coord cc0_transform_3 0 0 (fun _ => rfl) (by decide)) (P := 1) (m := 0) (by decide) rfl t).mpr (Nat.mod_one _) : ∀ t : Fin grid0.N, Pipeline.Window.flushOf grid0 true cc0_transform_3 t = true)

/-- The body obligation with the output's contents stated, at non-negative group sizes. -/
theorem body_obligation (hs : Sized m) (c : Dev nD) : BodyObligation (dats (F := F) m 0 c) (defs₀ (F := F)) Variants.none () Set.univ := fun t => by
  rw [bigSep_W0, bigSep_W0, defs₀_row m]
  refine triple_restated (sound_body m c t) rfl ?_ fun _ => ?_
  · unfold bodyPre
    iintro ⟨HP, Ho, H0, H1, H2, ⟨%d, H3⟩⟩
    isplitl [HP]; · iexact HP
    isplitl [Ho]; · iexact Ho
    isplitl [H0]; · iexact H0
    isplitl [H1]; · iexact H1
    isplitl [H2]; · iexact H2
    iexists _; iexact H3
  unfold bodyPost
  iintro ⟨HP, Ho, H0, H1, H2, ⟨%X, %hX, H3⟩⟩
  isplitl [HP]; · iexact HP
  isplitl [Ho]; · iexact Ho
  isplitl [H0]; · iexact H0
  isplitl [H1]; · iexact H1
  isplitl [H2]; · iexact H2
  obtain rfl := hX (hs c t)
  have hf := flush3 m t
  dsimp only
  split
  · split
    · next h => exact absurd (hf.symm.trans h) (by decide)
    · iexact H3
  · iexact H3

set_option backward.isDefEq.respectTransparency.types false in
/-- The launch at non-negative group sizes: every array ends as the proof data says, every other buffer unchanged. -/
theorem run_exact (hs : Sized m) : θ_run defs (onTc (τ := τ) (main (F := F))) (s₀ m ρ)
    (Pipeline.FramePost (Pipeline.pin pcfgs fun _ => adm m) (dats m) 0 (V m)) :=
  Pipeline.θ_run_frameP pcfgs (fun _ => adm m) (dats m) (0 : Fin 1) launch0 defs₀ Variants.none m ρ main
    (hbody := fun c => (body_obligation m hs c).loose) (hshare := fun c => (dats m 0 c).share_full fun _ => rfl)
    (howed := fun _ _ => rfl) (V := V m) (hmain := hmain m Variants.none) (hA := A_eq m) (hpf := V_pre m)
    (hΦ := fun _ _ => rfl)

end

/-! ## Over the extended reals -/

variable (m : (ℓ : Loc nD τ sig) → Buf (Elt Ideal) ℓ) (ρ : Dev nD → PrngReg)

/-- What the kernel leaves in its output array, of the argument arrays: at a row below its group's size, the row's product with
    the scaled weights; at the other rows, zero. -/
def outOf (x : Vec Ideal S16x128x5120 .bf16) (gs : Vec Ideal S16 .i32) (w : Vec Ideal S16x768x5120 .fp8e4m3) (ws : Vec Ideal S16x6x40 .f32)
    (e : Fin 16) (r : Fin 128) (o : Fin 768) : EReal :=
  Scalar.select (IntOp.cmpi .slt (BitVec.ofNat 32 r.val) (gs (ix1 e)))
    (∑ d : Fin 5120, x (ix3 e r d) * ws (ix3 e ⟨o.val / 128, by omega⟩ ⟨d.val / 128, by omega⟩) * w (ix3 e o d)) 0

/-- The point's coordinate is its number. -/
theorem coords_val : ∀ t : Fin grid0.N, (grid0.coords t 0).val = t.val := by decide +kernel

/-- The group point `t` works on. -/
abbrev grp (t : Fin (cfgM m).N) : Fin 16 := ⟨t.val, t.isLt⟩

theorem idx1 : ∀ t : Fin grid0.N, cc0_transform_1 (grid0.coords t) 0 = t.val := by decide +kernel
theorem idx2 : ∀ t : Fin grid0.N, cc0_transform_2 (grid0.coords t) 0 = t.val := by decide +kernel
theorem idx3 : ∀ t : Fin grid0.N, cc0_transform_3 (grid0.coords t) 0 = t.val := by decide +kernel

/-- The weight scales' window is the whole array. -/
theorem iblk0_apply (c : Dev nD) (t : Fin (cfgM m).N) (a : Fin 16) (b : Fin 6) (k : Fin 40) :
    iblk m c 0 t (ix3 a b k : S16x6x40.Idx) = m ((c : Thread nD τ).loc main_arg3) (ix3 a b k : S16x6x40.Idx) := by
  have he : (((cfgM m).win 0).blk t).view.emb (ix3 a b k : S16x6x40.Idx) = (ix3 a b k : S16x6x40.Idx) := by
    funext i; apply Fin.ext
    match i with
    | ⟨0, _⟩ => show 0 * 16 + 1 * a.val = a.val; omega
    | ⟨1, _⟩ => show 0 * 6 + 1 * b.val = b.val; omega
    | ⟨2, _⟩ => show 0 * 40 + 1 * k.val = k.val; omega
  exact congrArg (m ((c : Thread nD τ).loc main_arg3)) he

/-- The activations' block is the group's rows. -/
theorem iblk1_apply (c : Dev nD) (t : Fin (cfgM m).N) (r : Fin 128) (d : Fin 5120) :
    iblk m c 1 t (ix3 0 r d : S1x128x5120.Idx) = m ((c : Thread nD τ).loc main_arg0) (ix3 (grp m t) r d : S16x128x5120.Idx) := by
  have h := idx1 t
  have he : (((cfgM m).win 1).blk t).view.emb (ix3 0 r d : S1x128x5120.Idx) = (ix3 (grp m t) r d : S16x128x5120.Idx) := by
    funext i; apply Fin.ext
    match i with
    | ⟨0, _⟩ => show cc0_transform_1 (grid0.coords t) 0 * 1 + 1 * 0 = t.val; omega
    | ⟨1, _⟩ => show 0 * 128 + 1 * r.val = r.val; omega
    | ⟨2, _⟩ => show 0 * 5120 + 1 * d.val = d.val; omega
  exact congrArg (m ((c : Thread nD τ).loc main_arg0)) he

/-- The weights' block is the group's. -/
theorem iblk2_apply (c : Dev nD) (t : Fin (cfgM m).N) (r : Fin 768) (d : Fin 5120) :
    iblk m c 2 t (ix3 0 r d : S1x768x5120.Idx) = m ((c : Thread nD τ).loc main_arg2) (ix3 (grp m t) r d : S16x768x5120.Idx) := by
  have h := idx2 t
  have he : (((cfgM m).win 2).blk t).view.emb (ix3 0 r d : S1x768x5120.Idx) = (ix3 (grp m t) r d : S16x768x5120.Idx) := by
    funext i; apply Fin.ext
    match i with
    | ⟨0, _⟩ => show cc0_transform_2 (grid0.coords t) 0 * 1 + 1 * 0 = t.val; omega
    | ⟨1, _⟩ => show 0 * 768 + 1 * r.val = r.val; omega
    | ⟨2, _⟩ => show 0 * 5120 + 1 * d.val = d.val; omega
  exact congrArg (m ((c : Thread nD τ).loc main_arg2)) he

/-- The output's block is the group's rows of the array. -/
theorem emb3 (t : Fin (cfgM m).N) (j : S1x128x768.Idx) :
    (((cfgM m).win 3).blk t).view.emb j = (ix3 (grp m t) ⟨(j 1).val, (j 1).isLt⟩ ⟨(j 2).val, (j 2).isLt⟩ : S16x128x768.Idx) := by
  have h := idx3 t
  have h0 : (j 0).val < 1 := (j 0).isLt
  funext i; apply Fin.ext
  match i with
  | ⟨0, _⟩ => show cc0_transform_3 (grid0.coords t) 0 * 1 + 1 * (j 0).val = t.val; omega
  | ⟨1, _⟩ => show 0 * 128 + 1 * (j 1).val = (j 1).val; omega
  | ⟨2, _⟩ => show 0 * 768 + 1 * (j 2).val = (j 2).val; omega

/-- The size the body loads at point `t` is the group's. -/
theorem sizeAt_eq (c : Dev nD) (t : Fin (cfgM m).N) : sizeAt m c t = m ((c : Thread nD τ).loc main_arg1) (ix1 (grp m t) : S16.Idx) := by
  obtain rfl : c = 0 := Subsingleton.elim _ _
  refine congrArg (m (((0 : Dev nD) : Thread nD τ).loc main_arg1)) ?_
  funext i; apply Fin.ext
  match i with
  | ⟨0, _⟩ =>
    have h : ∀ t : Fin grid0.N, k0_off1 (grid0.coords t) 0 + 1 * 0 = t.val := by decide +kernel
    exact h t

/-! ## What the body leaves in the output's buffer -/

/-- An empty group's branch stores zeros over the whole output buffer. -/
theorem runZero_eq {F : FTy → Type} [FloatOps F] (c : Dev nD) (i : grid0.Coords)
    (M1 : Memref sig .tc .smem S16 .i32) (h1 : M1.IsWhole) (M2 : Memref sig .tc .smem S16x6x40 .f32) (h2 : M2.IsWhole)
    (M3 : Memref sig .tc .vmem S1x128x5120 .bf16) (h3 : M3.IsWhole) (M4 : Memref sig .tc .vmem S1x768x5120 .fp8e4m3) (h4 : M4.IsWhole)
    (M5 : Memref sig .tc .vmem S1x128x768 .bf16) (h5 : M5.IsWhole) (M6 : Memref sig .tc .vmem S128x5120 .bf16) (h6 : M6.IsWhole)
    (M7 : Memref sig .tc .vmem S128x5120 .bf16) (h7 : M7.IsWhole)
    (f1 : Bf (F := F) c M1)
    (hc1 : k0_cond1 (word c i M1 f1) = 1#1) (hc2 : ¬ k0_cond2 (word c i M1 f1) = 1#1) :
    (runZero c i M1 h1 M2 h2 M3 h3 M4 h4 M5 h5 M6 h6 M7 h7 f1 hc1 hc2).1
      = M5.view.writes (Elt F) M5.view.junk [(⟨Rect.unit ![0, 0, 0] S1x128x768.size inb_S1x128x768_S1x128x768_0_0_0, k0_pay1⟩ : View.Piece (Elt F) S1x128x768 .bf16)] := by
  sl_kernel_rfl

theorem pay1_apply (r : Fin 128) (o : Fin 768) : k0_pay1 (F := Ideal) (ix3 0 r o) = (0 : EReal) := by
  pointwise [k0_pay1]

/-- The first branch runs at size zero only. -/
theorem cond1_zero (v : BitVec 32) (h : k0_cond1 v = 1#1) : v = 0#32 := by
  by_contra hv
  have hb : (v == 0#32) = false := by simp [hv]
  revert h
  simp only [k0_cond1, Scalar.cmpi, Scalar.extui, IntOp.cmpi, hb]
  decide

/-- A non-negative size runs one of the two branches. -/
theorem cond_of_nonneg (v : BitVec 32) (h : IntOp.cmpi .sge v 0#32 = 1#1) : k0_cond1 v = 1#1 ∨ k0_cond2 v = 1#1 := by
  by_cases hv : v = 0#32
  · subst hv; left; decide
  · right
    have hlt : (0#32).slt v = true := by
      have h' : (0#32).sle v = true := by
        revert h; simp only [IntOp.cmpi]; cases (0#32).sle v <;> decide
      rw [BitVec.sle_eq_decide, decide_eq_true_eq] at h'
      rw [BitVec.slt_eq_decide, decide_eq_true_eq]
      rcases lt_or_eq_of_le h' with h'' | h''
      · exact h''
      · exact absurd (BitVec.eq_of_toInt_eq h'').symm hv
    simp only [k0_cond2, Scalar.cmpi, Scalar.extui, IntOp.cmpi, hlt]
    decide

/-- Below a group of size zero there is no row. -/
theorem no_row (r : Fin 128) : IntOp.cmpi .slt (BitVec.ofNat 32 r.val) 0#32 = 0#1 := by
  revert r; decide +kernel

/-- The activations as launched. -/
abbrev arrX (c : Dev nD) : S16x128x5120.Idx → EReal := m ((c : Thread nD τ).loc main_arg0)
/-- The group sizes as launched. -/
abbrev arrN (c : Dev nD) : S16.Idx → BitVec 32 := m ((c : Thread nD τ).loc main_arg1)
/-- The weights as launched. -/
abbrev arrW (c : Dev nD) : S16x768x5120.Idx → EReal := m ((c : Thread nD τ).loc main_arg2)
/-- The weights' scales as launched. -/
abbrev arrS (c : Dev nD) : S16x6x40.Idx → EReal := m ((c : Thread nD τ).loc main_arg3)

/-- An empty group's block. -/
theorem outAt_zero (c : Dev nD) (t : Fin (cfgM m).N) (h1 : k0_cond1 (sizeAt m c t) = 1#1) : outAt m c t = k0_pay1 (F := Ideal) := by
  refine (dif_pos h1).trans ((congrArg ((ms0_3 m t).view.read (Elt Ideal)) (runZero_eq c (grid0.coords t) tbM0_0 htbM0_0 (ms0_0 m t) (hs0_0 m t) (ms0_1 m t) (hs0_1 m t)
      (ms0_2 m t) (hs0_2 m t) (ms0_3 m t) (hs0_3 m t) scM0_0 (Memref.isWhole_whole _) scM0_1 (Memref.isWhole_whole _) (tbl m 0) h1 (not_both _ h1))).trans
    ((View.read_writes_junk_eq_canon (ms0_3 m t).view _).trans ?_))
  exact View.canon_unit_zero (S := S1x128x768) (funext fun a => by fin_cases a <;> rfl) _ _

/-- A non-empty group's block. -/
theorem outAt_pos (c : Dev nD) (t : Fin (cfgM m).N) (h1 : ¬ k0_cond1 (sizeAt m c t) = 1#1) (h2 : k0_cond2 (sizeAt m c t) = 1#1) :
    outAt m c t = View.canon (outPieces (F := Ideal) c (grid0.coords t) tbM0_0 (ms0_0 m t) (ms0_1 m t) (ms0_2 m t) scM0_0 scM0_1 (tbl m 0)
      ((hs0_0 m t).unread (iblk m c 0 t)) ((hs0_1 m t).unread (iblk m c 1 t)) ((hs0_2 m t).unread (iblk m c 2 t)) 6 (Nat.le_refl _)) :=
  (dif_neg h1).trans ((dif_pos h2).trans ((congrArg ((ms0_3 m t).view.read (Elt Ideal)) (runPos_eq c (grid0.coords t) tbM0_0 htbM0_0 (ms0_0 m t) (hs0_0 m t) (ms0_1 m t) (hs0_1 m t)
      (ms0_2 m t) (hs0_2 m t) (ms0_3 m t) (hs0_3 m t) scM0_0 (Memref.isWhole_whole _) scM0_1 (Memref.isWhole_whole _) (tbl m 0)
      ((hs0_0 m t).unread (iblk m c 0 t)) ((hs0_1 m t).unread (iblk m c 1 t)) ((hs0_2 m t).unread (iblk m c 2 t)) h1 h2)).trans
    (View.read_writes_junk_eq_canon (ms0_3 m t).view _)))

/-- No activation exceeds the greatest bfloat16 in magnitude. -/
abbrev Bounded : Prop := ∀ (c : Dev nD) e r d, max (arrX m c (ix3 e r d)) (-(arrX m c (ix3 e r d))) ≤ (xmax : EReal)

/-- WHAT THE BODY LEAVES at point `t`, at an index. -/
theorem outAt_apply (hs : Sized m) (hx : Bounded m) (c : Dev nD) (t : Fin (cfgM m).N) (r : Fin 128) (o : Fin 768) :
    outAt m c t (ix3 0 r o : S1x128x768.Idx) = outOf (arrX m c) (arrN m c) (arrW m c) (arrS m c) (grp m t) r o := by
  unfold outOf
  have hn : sizeAt m c t = arrN m c (ix1 (grp m t)) := sizeAt_eq m c t
  by_cases h1 : k0_cond1 (sizeAt m c t) = 1#1
  · refine (congrFun (outAt_zero m c t h1) (ix3 0 r o : S1x128x768.Idx)).trans ((pay1_apply r o).trans ?_)
    rw [← hn, cond1_zero _ h1, no_row]
    rfl
  · have h2 := (hs c t).resolve_left h1
    have e1 : ∀ r d, rdX c (ms0_1 m t) ((hs0_1 m t).unread (iblk m c 1 t)) (ix3 0 r d) = arrX m c (ix3 (grp m t) r d) := fun r d =>
      (congrFun ((hs0_1 m t).read_unread (iblk m c 1 t)) _).trans (iblk1_apply m c t r d)
    have e2 : ∀ r d, rdW c (ms0_2 m t) ((hs0_2 m t).unread (iblk m c 2 t)) (ix3 0 r d) = arrW m c (ix3 (grp m t) r d) := fun r d =>
      (congrFun ((hs0_2 m t).read_unread (iblk m c 2 t)) _).trans (iblk2_apply m c t r d)
    have e0 : ∀ a b k, rdS c (ms0_0 m t) ((hs0_0 m t).unread (iblk m c 0 t)) (ix3 a b k) = arrS m c (ix3 a b k) := fun a b k =>
      (congrFun ((hs0_0 m t).read_unread (iblk m c 0 t)) _).trans (iblk0_apply m c t a b k)
    have hg : (⟨(grid0.coords t 0).val, (grid0.coords t 0).isLt⟩ : Fin 16) = grp m t := Fin.ext (coords_val t)
    refine (congrFun (outAt_pos m c t h1 h2) (ix3 0 r o : S1x128x768.Idx)).trans
      ((canon_out c (grid0.coords t) tbM0_0 (ms0_0 m t) (ms0_1 m t) (ms0_2 m t) scM0_0 scM0_1 (tbl m 0) _ _ _ (fun r d => by rw [e1]; exact hx _ _ _ _) r o).trans ?_)
    rw [show word c (grid0.coords t) tbM0_0 (tbl m 0) = arrN m c (ix1 (grp m t)) from hn]
    refine congrArg (fun v : EReal => Scalar.select (IntOp.cmpi .slt (BitVec.ofNat 32 r.val) (arrN m c (ix1 (grp m t)))) v 0) (Finset.sum_congr rfl fun d _ => ?_)
    rw [e0, e1, e2, hg]

/-! ## The output array after the run -/

/-- The output array's closed form. -/
abbrev G (x : Vec Ideal S16x128x5120 .bf16) (gs : Vec Ideal S16 .i32) (w : Vec Ideal S16x768x5120 .fp8e4m3) (ws : Vec Ideal S16x6x40 .f32) : Vec Ideal S16x128x768 .bf16 :=
  fun i => outOf x gs w ws ⟨(i 0).val, (i 0).isLt⟩ ⟨(i 1).val, (i 1).isLt⟩ ⟨(i 2).val, (i 2).isLt⟩

/-- An index of a block by its coordinates. -/
theorem blk_ix (j : S1x128x768.Idx) : j = (ix3 0 ⟨(j 1).val, (j 1).isLt⟩ ⟨(j 2).val, (j 2).isLt⟩ : S1x128x768.Idx) := by
  have h0 : (j 0).val < 1 := (j 0).isLt
  funext a; apply Fin.ext
  match a with
  | ⟨0, _⟩ => show (j 0).val = 0; omega
  | ⟨1, _⟩ => rfl
  | ⟨2, _⟩ => rfl

/-- What point `t` writes back is its block of the closed form. -/
theorem flushed_eq (hs : Sized m) (hx : Bounded m) (c : Dev nD) (t : Fin (cfgM m).N) :
    (dats m 0 c).flushed 3 t = (((cfgM m).win 3).blk t).view.read (Elt Ideal) (G (arrX m c) (arrN m c) (arrW m c) (arrS m c)) := by
  show ((cfgM m).win 3).cut (grid0.coords t) ((dats m 0 c).after 3 t) = _
  rw [after0_3]
  funext j
  show outAt m c t j = G (arrX m c) (arrN m c) (arrW m c) (arrS m c) ((((cfgM m).win 3).blk t).view.emb j)
  rw [emb3 m t j]
  refine (congrArg (outAt m c t) (blk_ix j)).trans ?_
  exact outAt_apply m hs hx c t _ _

/-- Every index of the output array is in the block of its group's point. -/
theorem covered (i : S16x128x768.Idx) : ∃ t : Fin (cfgM m).N, ((cfgM m).win 3).flush t = true ∧ i ∈ (((cfgM m).win 3).blk t).view.set := by
  refine ⟨(⟨(i 0).val, (i 0).isLt⟩ : Fin grid0.N), flush3 m _, ?_⟩
  have h := (((cfgM m).win 3).blk (⟨(i 0).val, (i 0).isLt⟩ : Fin grid0.N)).view.emb_mem_set (ix3 0 ⟨(i 1).val, (i 1).isLt⟩ ⟨(i 2).val, (i 2).isLt⟩ : S1x128x768.Idx)
  rw [emb3 m] at h
  have hi : i = (ix3 ⟨(i 0).val, (i 0).isLt⟩ ⟨(i 1).val, (i 1).isLt⟩ ⟨(i 2).val, (i 2).isLt⟩ : S16x128x768.Idx) := by
    funext a; apply Fin.ext
    match a with
    | ⟨0, _⟩ => rfl
    | ⟨1, _⟩ => rfl
    | ⟨2, _⟩ => rfl
  rw [hi]
  exact h

/-- THE OUTPUT ARRAY after the run. -/
theorem final (hs : Sized m) (hx : Bounded m) (c : Dev nD) :
    (dats m 0 c).arrAt 3 (cfgM m).N = G (arrX m c) (arrN m c) (arrW m c) (arrS m c) :=
  (dats m 0 c).arrAt_eq_of_cover 3 (G (arrX m c) (arrN m c) (arrW m c) (arrS m c)) (fun t _ => flushed_eq m hs hx c t) (covered m)

/-- THE RUN, at non-negative group sizes and bounded activations: the output array at its closed form, the arguments unchanged. -/
theorem run (hs : Sized m) (hx : Bounded m) : θ_run defs (onTc (τ := τ) (main (F := Ideal))) ⟨m, fun _ => 0, ρ⟩ (fun r => ∀ c : Dev nD,
      r.2.mem ((c.tc : Thread nD τ).loc main_v0) = G (arrX m c) (arrN m c) (arrW m c) (arrS m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
      ((h c).1 3).trans (final m hs hx c),
      ((h c).1 1).trans (((dats m 0 c).arrAt_in 1 rfl _).trans ((A_eq m c 1).trans (V_main_arg0 m c))),
      ((h c).2 main_arg1 (by decide : main_arg1 ∈ Pipeline.restRefs sig spec0)).trans (V_main_arg1 m c),
      ((h c).1 2).trans (((dats m 0 c).arrAt_in 2 rfl _).trans ((A_eq m c 2).trans (V_main_arg2 m c))),
      ((h c).1 0).trans (((dats m 0 c).arrAt_in 0 rfl _).trans ((A_eq m c 0).trans (V_main_arg3 m c)))⟩) (run_exact m ρ hs)

end Cert.KernelIdeal.Hand

end
-- ==== Proof.RefPayload.lean ====
/- The reference's payloads read at an index over the extended reals. -/
module

public import proofs.«01_k».proof.Proof.Gen.ReferenceIdeal.Value
public import proofs.«01_k».proof.Proof.Quant
public import Idealize.ShloMosaic.Lib.Pointwise

@[expose] public section

noncomputable section

namespace Cert.ReferenceIdeal.Hand

open Cert.ReferenceIdeal Cert.ReferenceIdeal.Gen
open Idealize.ShloMosaic
open Cert.Hand

/-- A block of a row has its absolute maximum as its reduction. -/
theorem rowMax_apply (p2 : FVec Ideal S16x128x40x128 .f32) (e : Fin 16) (r : Fin 128) (k : Fin 40) :
    multiReduction .maximumf [3] S16x128x40 (absf p2) 0xFF800000#32 reduces_S16x128x40x128_S16x128x40 (.inl rfl) rfl (ix3 e r k)
      = (Finset.univ : Finset (Fin 128)).fold max ⊥ (fun l => max (p2 (ix4 e r k l)) (-(p2 (ix4 e r k l)))) := by
  pointwise
  rw [ofBits_bot]
  rfl

/-- The exponents tried: `j - 149`. -/
theorem expts_apply (j : Fin 278) :
    subf (F := Ideal) (sitofp .f32 (iota .tc S1x1x1x278 32 [3] iota_S1x1x1x278_d3_w32)) (broadcast S1x1x1x278 (Scalar.ofBits .f32 0x43150000#32)) (ix4 0 0 0 j)
      = (((j.val : ℝ) - 149 : ℝ) : EReal) := by
  have h : ∀ j : Fin 278, (BitVec.ofNat 32 j.val).toInt = (j.val : ℤ) := by decide +kernel
  pointwise
  rw [ofBits_149]
  show ((((BitVec.ofNat 32 j.val).toInt : ℤ) : ℝ) : EReal) - _ = _
  rw [h, EReal.coe_sub]
  norm_num

/-- The least exponent tried whose power of two is above `v`, 128 where there is none. -/
theorem least_apply (v : FVec Ideal S16x128x40 .f32) (x : FVec Ideal S1x1x1x278 .f32) (e : Fin 16) (r : Fin 128) (k : Fin 40) :
    multiReduction .minimumf [3] S16x128x40 (select (cmpf .olt (broadcastTo S16x128x40x278 (shapeCast S16x128x40x1 v shapeCasts_S16x128x40_S16x128x40x1) broadcasts_S16x128x40x1_S16x128x40x278)
      (broadcastTo S16x128x40x278 (exp2 x) broadcasts_S1x1x1x278_S16x128x40x278)) (broadcastTo S16x128x40x278 (shapeCast S1x1x1x278 x shapeCasts_S1x1x1x278_S1x1x1x278) broadcasts_S1x1x1x278_S16x128x40x278)
      (broadcast S16x128x40x278 (Scalar.ofBits .f32 0x43000000#32))) 0x7F800000#32 reduces_S16x128x40x278_S16x128x40 (.inl rfl) rfl (ix3 e r k)
      = (Finset.univ : Finset (Fin 278)).fold min ⊤ (fun j => if v (ix3 e r k) < Ideal.exp2 (x (ix4 0 0 0 j)) then x (ix4 0 0 0 j) else ((128 : ℝ) : EReal)) := by
  pointwise
  rw [ofBits_top, ofBits_128]
  rfl

/-- The exponent payload, its operations written out. -/
theorem pay3_eq (x : Vec Ideal S16x128x5120 .bf16) : k0_pay3 (F := Ideal) x =
    select (cmpf .oeq (multiReduction .maximumf [3] S16x128x40 (absf (k0_pay2 x)) 0xFF800000#32 reduces_S16x128x40x128_S16x128x40 (.inl rfl) rfl) (broadcast S16x128x40 (Scalar.ofBits .f32 0x00000000#32)))
      (broadcast S16x128x40 (Scalar.ofBits .f32 0x00000000#32))
      (multiReduction .minimumf [3] S16x128x40 (select (cmpf .olt (broadcastTo S16x128x40x278 (shapeCast S16x128x40x1
        (mulf (multiReduction .maximumf [3] S16x128x40 (absf (k0_pay2 x)) 0xFF800000#32 reduces_S16x128x40x128_S16x128x40 (.inl rfl) rfl) (broadcast S16x128x40 (Scalar.ofBits .f32 0x3B124925#32)))
         shapeCasts_S16x128x40_S16x128x40x1) broadcasts_S16x128x40x1_S16x128x40x278)
      (broadcastTo S16x128x40x278 (exp2 (subf (F := Ideal) (sitofp .f32 (iota .tc S1x1x1x278 32 [3] iota_S1x1x1x278_d3_w32)) (broadcast S1x1x1x278 (Scalar.ofBits .f32 0x43150000#32)))) broadcasts_S1x1x1x278_S16x128x40x278))
      (broadcastTo S16x128x40x278 (shapeCast S1x1x1x278 (subf (F := Ideal) (sitofp .f32 (iota .tc S1x1x1x278 32 [3] iota_S1x1x1x278_d3_w32)) (broadcast S1x1x1x278 (Scalar.ofBits .f32 0x43150000#32))) shapeCasts_S1x1x1x278_S1x1x1x278) broadcasts_S1x1x1x278_S16x128x40x278)
      (broadcast S16x128x40x278 (Scalar.ofBits .f32 0x43000000#32))) 0x7F800000#32 reduces_S16x128x40x278_S16x128x40 (.inl rfl) rfl) := rfl

/-- The codes payload, its operations written out. -/
theorem pay5_eq (x : Vec Ideal S16x128x5120 .bf16) : k0_pay5 (F := Ideal) x =
    truncf .fp8e4m3 (minimumf (broadcast S16x128x40x128 (Scalar.ofBits .f32 0x43E00000#32)) (maximumf (broadcast S16x128x40x128 (Scalar.ofBits .f32 0xC3E00000#32))
      (mulf (k0_pay2 x) (broadcastTo S16x128x40x128 (shapeCast S16x128x40x1 (exp2 (subf (broadcast S16x128x40 (Scalar.ofBits .f32 0x00000000#32)) (k0_pay3 x))) shapeCasts_S16x128x40_S16x128x40x1) broadcasts_S16x128x40x1_S16x128x40x128)))) bitsLt_fp8e4m3_f32 := rfl

/-- The exponent of an all-zero block is zero. -/
theorem sel_apply (a b : FVec Ideal S16x128x40 .f32) (e : Fin 16) (r : Fin 128) (k : Fin 40) :
    select (cmpf .oeq a (broadcast S16x128x40 (Scalar.ofBits .f32 0x00000000#32))) (broadcast S16x128x40 (Scalar.ofBits .f32 0x00000000#32)) b (ix3 e r k)
      = if a (ix3 e r k) = 0 then 0 else b (ix3 e r k) := by
  pointwise

/-- The scale payload: the power of two of the exponent. -/
theorem pay4_eq (x : Vec Ideal S16x128x5120 .bf16) : k0_pay4 (F := Ideal) x = exp2 (k0_pay3 (F := Ideal) x) := rfl

/-- Block `k` of a row at lane `l` is the row at `128 k + l`. -/
theorem pay2_apply (x : Vec Ideal S16x128x5120 .bf16) (e : Fin 16) (r : Fin 128) (k : Fin 40) (l : Fin 128) :
    k0_pay2 (F := Ideal) x (ix4 e r k l) = x (ix3 e r ⟨k.val * 128 + l.val, by omega⟩) := by
  pointwise [k0_pay2]

/-- The inverse scale, spread over a block. -/
theorem invs_apply (p2 : FVec Ideal S16x128x40x128 .f32) (p3 : FVec Ideal S16x128x40 .f32) (e : Fin 16) (r : Fin 128) (k : Fin 40) (l : Fin 128) :
    mulf p2 (broadcastTo S16x128x40x128 (shapeCast S16x128x40x1 p3 shapeCasts_S16x128x40_S16x128x40x1) broadcasts_S16x128x40x1_S16x128x40x128) (ix4 e r k l)
      = p2 (ix4 e r k l) * p3 (ix3 e r k) := by
  pointwise

/-- The clip and the cast to codes at an index. -/
theorem clip_apply (q : FVec Ideal S16x128x40x128 .f32) (e : Fin 16) (r : Fin 128) (k : Fin 40) (l : Fin 128) :
    (truncf .fp8e4m3 (minimumf (broadcast S16x128x40x128 (Scalar.ofBits .f32 0x43E00000#32)) (maximumf (broadcast S16x128x40x128 (Scalar.ofBits .f32 0xC3E00000#32)) q)) bitsLt_fp8e4m3_f32 : FVec Ideal S16x128x40x128 .fp8e4m3) (ix4 e r k l)
      = min (Ideal.ofBits FTy.f32 0x43E00000#32) (max (Ideal.ofBits FTy.f32 0xC3E00000#32) (q (ix4 e r k l))) := by
  pointwise

/-- The negated exponent at an index. -/
theorem neg_apply (p3 : FVec Ideal S16x128x40 .f32) (e : Fin 16) (r : Fin 128) (k : Fin 40) :
    subf (broadcast S16x128x40 (Scalar.ofBits .f32 0x00000000#32)) p3 (ix3 e r k) = 0 - p3 (ix3 e r k) := by
  pointwise

/-- A power of two at an index. -/
theorem exp2_apply' {s : Shape} (p3 : FVec Ideal s .f32) (j : s.Idx) : exp2 p3 j = Ideal.exp2 (p3 j) := rfl

/-- A product at an index. -/
theorem mul_const_apply (a : FVec Ideal S16x128x40 .f32) (b : BitVec 32) (e : Fin 16) (r : Fin 128) (k : Fin 40) :
    mulf a (broadcast S16x128x40 (Scalar.ofBits .f32 b)) (ix3 e r k) = a (ix3 e r k) * Ideal.ofBits .f32 b := by
  pointwise

/-- The exponent of a block: zero where its absolute maximum is zero, else the least exponent tried whose power is above that maximum over 448. -/
theorem pay3_apply (x : Vec Ideal S16x128x5120 .bf16) (e : Fin 16) (r : Fin 128) (k : Fin 40) (A : ℝ)
    (hA : (Finset.univ : Finset (Fin 128)).fold max ⊥ (fun l => max (k0_pay2 (F := Ideal) x (ix4 e r k l)) (-(k0_pay2 (F := Ideal) x (ix4 e r k l)))) = (A : EReal))
    (h0 : 0 ≤ A) (hM : A ≤ xmax) :
    ∃ t : ℝ, k0_pay3 (F := Ideal) x (ix3 e r k) = (t : EReal) ∧ A * (9586981 * (2 : ℝ) ^ (-32 : ℤ)) < (2 : ℝ) ^ t := by
  have hv : A * (9586981 * (2 : ℝ) ^ (-32 : ℤ)) < (2 : ℝ) ^ (128 : ℝ) := by
    have e1 : (2 : ℝ) ^ (128 : ℝ) = 2 ^ (128 : ℕ) := by rw [← Real.rpow_natCast]; norm_num
    have e2 : (2 : ℝ) ^ (104 : ℤ) = 2 ^ (104 : ℕ) := by norm_cast
    have e3 : (2 : ℝ) ^ (-32 : ℤ) = 1 / 4294967296 := by norm_num
    simp only [xmax] at hM
    rw [e1, e3]; rw [e2] at hM
    norm_num at hM ⊢
    linarith
  obtain ⟨t, ht, hlt⟩ := leastExp _ hv
  rw [pay3_eq, sel_apply, rowMax_apply, hA]
  by_cases hz : (A : EReal) = 0
  · rw [if_pos hz]
    have hz' : A = 0 := by exact_mod_cast hz
    exact ⟨0, by simp, by rw [hz']; norm_num⟩
  · rw [if_neg hz]
    refine ⟨t, ?_, hlt⟩
    rw [least_apply, ← ht, mul_const_apply, rowMax_apply, hA, recip448, ← EReal.coe_mul]
    congr 1
    funext j
    rw [expts_apply, Ideal.exp2_coe]
    rfl

/-- Codes times scale are the activations, where these are bounded. -/
theorem scaled_apply (x : Vec Ideal S16x128x5120 .bf16) (hx : ∀ e r d, max (x (ix3 e r d)) (-(x (ix3 e r d))) ≤ (xmax : EReal))
    (e : Fin 16) (r : Fin 128) (k : Fin 40) (l : Fin 128) :
    k0_pay5 (F := Ideal) x (ix4 e r k l) * k0_pay4 (F := Ideal) x (ix3 e r k) = x (ix3 e r ⟨k.val * 128 + l.val, by omega⟩) := by
  obtain ⟨A, hA, h0, hM, hk⟩ := rowMax (by norm_num) (fun l => k0_pay2 (F := Ideal) x (ix4 e r k l)) xmax (fun l => by rw [pay2_apply]; exact hx e r _)
  obtain ⟨t, ht, hlt⟩ := pay3_apply x e r k A hA h0 hM
  obtain ⟨y, hy, hyA⟩ := hk l
  rw [← pay2_apply x e r k l, pay5_eq, clip_apply, invs_apply, exp2_apply', neg_apply, pay4_eq, exp2_apply', ht, hy, ofBits_448, ofBits_neg448, zero_sub, ← EReal.coe_neg, Ideal.exp2_coe, Ideal.exp2_coe]
  exact clip_scale y t (le_448 h0 hlt hyA)

/-- The reference's result from codes `q` and scales `s`. -/
theorem pay1_apply (gs : Vec Ideal S16 .i32) (w : Vec Ideal S16x768x5120 .fp8e4m3) (ws : Vec Ideal S16x6x40 .f32)
    (s : FVec Ideal S16x128x40 .f32) (q : FVec Ideal S16x128x40x128 .fp8e4m3) (e : Fin 16) (r : Fin 128) (o : Fin 768) :
    k0_pay1 (F := Ideal) gs w ws s q (ix3 e r o) = Scalar.select (IntOp.cmpi .slt (BitVec.ofNat 32 r.val) (gs (ix1 e)))
      (∑ d : Fin 5120, q (ix4 e r ⟨d.val / 128, by omega⟩ ⟨d.val % 128, by omega⟩) * s (ix3 e r ⟨d.val / 128, by omega⟩)
        * ws (ix3 e ⟨o.val / 128, by omega⟩ ⟨d.val / 128, by omega⟩) * w (ix3 e o d)) 0 := by
  pointwise [k0_pay1]

/-- THE RESULT at an index: in the counted rows the contraction of the activations, times their scales, with the weights; zero in the others. -/
theorem G4_apply (x : Vec Ideal S16x128x5120 .bf16) (gs : Vec Ideal S16 .i32) (w : Vec Ideal S16x768x5120 .fp8e4m3) (ws : Vec Ideal S16x6x40 .f32)
    (hx : ∀ e r d, max (x (ix3 e r d)) (-(x (ix3 e r d))) ≤ (xmax : EReal)) (e : Fin 16) (r : Fin 128) (o : Fin 768) :
    k0_pay1 (F := Ideal) gs w ws (k0_pay4 x) (k0_pay5 x) (ix3 e r o) = Scalar.select (IntOp.cmpi .slt (BitVec.ofNat 32 r.val) (gs (ix1 e)))
      (∑ d : Fin 5120, x (ix3 e r d) * ws (ix3 e ⟨o.val / 128, by omega⟩ ⟨d.val / 128, by omega⟩) * w (ix3 e o d)) 0 := by
  rw [pay1_apply]
  refine congrArg (fun v : EReal => Scalar.select (IntOp.cmpi .slt (BitVec.ofNat 32 r.val) (gs (ix1 e))) v 0) (Finset.sum_congr rfl fun d _ => ?_)
  have hd : (⟨d.val / 128 * 128 + d.val % 128, by omega⟩ : Fin 5120) = d := Fin.ext (by show d.val / 128 * 128 + d.val % 128 = d.val; omega)
  rw [scaled_apply x hx e r ⟨d.val / 128, by omega⟩ ⟨d.val % 128, by omega⟩, hd]

end Cert.ReferenceIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal.Value
public import proofs.«01_k».proof.Proof.KernelFrame
public import proofs.«01_k».proof.Proof.IdealFrame
public import proofs.«01_k».proof.Proof.IdealValue
public import proofs.«01_k».proof.Proof.RefPayload
public import Idealize.ShloMosaic.Adequacy
public import Idealize.ShloMosaic.Init

@[expose] public section

noncomputable section

namespace Cert.Proof

open Idealize.ShloMosaic Idealize.SL.Sem Cert.Kernel

open Idealize.ShloMosaic.TcCoe Cert.Hand

/-- The precondition's operations' side conditions. -/
theorem preFacts : Cert.Pre_finite_rows_counted.Facts where
  bcast_S_S16 := by decide
  bitsLt_bf16_f32 := by decide
  bcast_S_S16x128x5120 := by decide

/-- The precondition says that no group's size is negative. -/
theorem sized_of_pre (m : (ℓ : Loc Cert.KernelIdeal.nD Cert.KernelIdeal.τ Cert.KernelIdeal.sig) → Buf (Elt Ideal) ℓ)
    (h : Cert.Pre_KernelIdeal_finite_rows_counted (hPre_finite_rows_counted := preFacts) m) : Cert.KernelIdeal.Hand.Sized m := fun c t => by
  rw [Cert.KernelIdeal.Hand.sizeAt_eq]
  exact Cert.KernelIdeal.Hand.cond_of_nonneg _ (congrFun (h c).1 (ix1 (Cert.KernelIdeal.Hand.grp m t)))

/-- The precondition says that no activation exceeds the greatest bfloat16 in magnitude. -/
theorem bounded_of_pre (m : (ℓ : Loc Cert.KernelIdeal.nD Cert.KernelIdeal.τ Cert.KernelIdeal.sig) → Buf (Elt Ideal) ℓ)
    (h : Cert.Pre_KernelIdeal_finite_rows_counted (hPre_finite_rows_counted := preFacts) m) : Cert.KernelIdeal.Hand.Bounded m := fun c e r d => by
  have hle := congrFun (h c).2 (ix3 e r d)
  have hle' : FloatOps.cmpf (F := Ideal) (φ := .f32) .ole (max (Cert.KernelIdeal.Hand.arrX m c (ix3 e r d)) (-(Cert.KernelIdeal.Hand.arrX m c (ix3 e r d)))) (Ideal.ofBits .f32 0x7F7F0000#32) = 1#1 := hle
  rw [bf16max] at hle'
  by_contra hn
  have hz : FloatOps.cmpf (F := Ideal) (φ := .f32) .ole (max (Cert.KernelIdeal.Hand.arrX m c (ix3 e r d)) (-(Cert.KernelIdeal.Hand.arrX m c (ix3 e r d)))) (xmax : EReal) = 0#1 :=
    congrArg BitVec.ofBool (decide_eq_false hn)
  exact absurd (hle'.symm.trans hz) (by decide)

/-- An index of the result by its coordinates. -/
theorem out_ix (i : Cert.KernelIdeal.S16x128x768.Idx) : i = ix3 ⟨(i 0).val, (i 0).isLt⟩ ⟨(i 1).val, (i 1).isLt⟩ ⟨(i 2).val, (i 2).isLt⟩ := by
  funext a; apply Fin.ext
  match a with
  | ⟨0, _⟩ => rfl
  | ⟨1, _⟩ => rfl
  | ⟨2, _⟩ => rfl

/-- On bounded activations the reference's result is the kernel's. -/
theorem value_eq (x : Vec Ideal Cert.KernelIdeal.S16x128x5120 .bf16) (gs : Vec Ideal Cert.KernelIdeal.S16 .i32) (w : Vec Ideal Cert.KernelIdeal.S16x768x5120 .fp8e4m3) (ws : Vec Ideal Cert.KernelIdeal.S16x6x40 .f32)
    (hx : ∀ e r d, max (x (ix3 e r d) : EReal) (-(x (ix3 e r d))) ≤ (xmax : EReal)) :
    Cert.ReferenceIdeal.Value.G4 (F := Ideal) x gs w ws = Cert.KernelIdeal.Hand.G x gs w ws := by
  funext i
  rw [out_ix i]
  exact Cert.ReferenceIdeal.Hand.G4_apply x gs w ws hx _ _ _

/-- THE VALUE CLAIM: on non-negative group sizes and bounded activations the two idealizations end with equal results. -/
theorem algebraic : Cert.algebraic_KernelIdeal_ReferenceIdeal_pre_finite_rows_counted (hKernelIdeal := Cert.KernelIdeal.Gen.facts)
    (hReferenceIdeal := Cert.ReferenceIdeal.Gen.facts) (hPre_finite_rows_counted := preFacts) := fun m g m' g' hpre hargs => by
  have hs := sized_of_pre m hpre
  have hx := bounded_of_pre m hpre
  refine ⟨fun c => Cert.KernelIdeal.Hand.G (Cert.KernelIdeal.Hand.arrX m c) (Cert.KernelIdeal.Hand.arrN m c) (Cert.KernelIdeal.Hand.arrW m c) (Cert.KernelIdeal.Hand.arrS m c),
    Cert.KernelIdeal.Hand.run m g hs hx, ?_⟩
  refine (θ_run Cert.ReferenceIdeal.defs _ _).mono (fun r h c => ⟨(h c).1.trans ?_, (h c).2⟩) (Cert.ReferenceIdeal.Value.run m' g')
  obtain ⟨h0, h1, h2, h3⟩ := hargs c
  rw [h0, h1, h2, h3]
  exact value_eq _ _ _ _ (hx c)

/-- Everything the certificate claims. -/
theorem claim : Cert.Claim := ⟨Cert.Kernel.Gen.facts, Cert.KernelIdeal.Gen.facts, Cert.ReferenceIdeal.Gen.facts, preFacts,
  fun m ρ _ => Cert.Kernel.Hand.frame m ρ, fun m ρ _ => Cert.KernelIdeal.Hand.frame m ρ, fun m ρ _ => Cert.KernelIdeal.Hand.frame m ρ,
  fun m ρ _ => Cert.ReferenceIdeal.Gen.frame m ρ, fun m ρ _ => Cert.ReferenceIdeal.Gen.frame m ρ, trivial, algebraic⟩

end Cert.Proof

end
